-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_some_depth_positive [hPre_some_depth_positive : Cert.Pre_some_depth_positive.Facts] (m : (ℓ : Loc Cert.KernelIdeal.nD Cert.KernelIdeal.τ Cert.KernelIdeal.sig) → Buf (Elt Ideal) ℓ) : Prop :=
  ∀ c : Dev Cert.KernelIdeal.nD,
    (Cert.Pre_some_depth_positive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_some_depth_positive [hPre_some_depth_positive : Cert.Pre_some_depth_positive.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_some_depth_positive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_some_depth_positive [hKernelIdeal : Cert.KernelIdeal.Facts] [hPre_some_depth_positive : Cert.Pre_some_depth_positive.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_some_depth_positive m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_some_depth_positive [hReferenceIdeal : Cert.ReferenceIdeal.Facts] [hPre_some_depth_positive : Cert.Pre_some_depth_positive.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_some_depth_positive m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_some_depth_positive [hKernelIdeal : Cert.KernelIdeal.Facts] [hReferenceIdeal : Cert.ReferenceIdeal.Facts] [hPre_some_depth_positive : Cert.Pre_some_depth_positive.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_some_depth_positive m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v21_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v225) = v0 c
          ∧ r.2.mem ((c.tc : Thread Cert.ReferenceIdeal.nD Cert.ReferenceIdeal.τ).loc Cert.ReferenceIdeal.main_v217) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_some_depth_positive : Cert.Pre_some_depth_positive.Facts),
    quiescent_Kernel (hKernel := hKernel)
    ∧ quiescent_KernelIdeal (hKernelIdeal := hKernelIdeal)
    ∧ quiescent_KernelIdeal_pre_some_depth_positive (hKernelIdeal := hKernelIdeal) (hPre_some_depth_positive := hPre_some_depth_positive)
    ∧ quiescent_ReferenceIdeal (hReferenceIdeal := hReferenceIdeal)
    ∧ quiescent_ReferenceIdeal_pre_some_depth_positive (hReferenceIdeal := hReferenceIdeal) (hPre_some_depth_positive := hPre_some_depth_positive)
    ∧ preserves_Kernel_KernelIdeal
    ∧ algebraic_KernelIdeal_ReferenceIdeal_pre_some_depth_positive (hKernelIdeal := hKernelIdeal) (hReferenceIdeal := hReferenceIdeal) (hPre_some_depth_positive := hPre_some_depth_positive)
-- ==== Pre_some_depth_positive.lean ====
abbrev S2x3x1080x1920 : Shape := ⟨4, ![2, 3, 1080, 1920]⟩
abbrev S1x2x3x1080x1920 : Shape := ⟨5, ![1, 2, 3, 1080, 1920]⟩
abbrev S2x1x1080x1920 : Shape := ⟨4, ![2, 1, 1080, 1920]⟩
abbrev S2x2x1080x1920 : Shape := ⟨4, ![2, 2, 1080, 1920]⟩
abbrev S_ : Shape := ⟨0, ![]⟩

class Facts : Prop where
  reducesTo_S2x1x1080x1920_S_d0_1_2_3 : S2x1x1080x1920.ReducesTo [0, 1, 2, 3] S_
  h_S_ : 0 < S_.numel

variable [Facts]

def fn {F : FTy → Type} [FloatOps F] (main_arg0 : FVec F S2x3x1080x1920 .f32) (main_arg1 : FVec F S1x2x3x1080x1920 .f32) (main_arg2 : FVec F S2x1x1080x1920 .f32) (main_arg3 : FVec F S2x2x1080x1920 .f32) : IVec S_ 1 :=
  let main_cst : FVec F S_ .f32 := constant S_ .f32 0xFF800000#32
  let main_v0 : FVec F S_ .f32 := (fun x v => Host.reduce FloatOps.maximumf x v reducesTo_S2x1x1080x1920_S_d0_1_2_3 h_S_) main_arg2 main_cst
  let main_cst_0 : FVec F S_ .f32 := constant S_ .f32 0x00000000#32
  let main_v1 : IVec S_ 1 := cmpf .ogt main_v0 main_cst_0
  main_v1
-- ==== Kernel.lean ====
abbrev S2x3x1080x1920 : Shape := ⟨4, ![2, 3, 1080, 1920]⟩
abbrev S1x2x3x1080x1920 : Shape := ⟨5, ![1, 2, 3, 1080, 1920]⟩
abbrev S2x1x1080x1920 : Shape := ⟨4, ![2, 1, 1080, 1920]⟩
abbrev S2x2x1080x1920 : Shape := ⟨4, ![2, 2, 1080, 1920]⟩
abbrev S270x1x1 : Shape := ⟨3, ![270, 1, 1]⟩
abbrev S1x1x8x1920 : Shape := ⟨4, ![1, 1, 8, 1920]⟩
abbrev S1x1x1 : Shape := ⟨3, ![1, 1, 1]⟩
abbrev S8x1920 : Shape := ⟨2, ![8, 1920]⟩
abbrev S1x8x1920 : Shape := ⟨3, ![1, 8, 1920]⟩
abbrev S1 : Shape := ⟨1, ![1]⟩
abbrev S_ : Shape := ⟨0, ![]⟩
abbrev S1x1 : Shape := ⟨2, ![1, 1]⟩
abbrev S2160x4x1920 : Shape := ⟨3, ![2160, 4, 1920]⟩
abbrev S2160x16x1920 : Shape := ⟨3, ![2160, 16, 1920]⟩
abbrev S1x3x8x1920 : Shape := ⟨4, ![1, 3, 8, 1920]⟩
abbrev S1x2x8x1920 : Shape := ⟨4, ![1, 2, 8, 1920]⟩
abbrev S8x4x1920 : Shape := ⟨3, ![8, 4, 1920]⟩
abbrev S8x16x1920 : Shape := ⟨3, ![8, 16, 1920]⟩
abbrev S2x8x1920 : Shape := ⟨3, ![2, 8, 1920]⟩
abbrev S3x8x1920 : Shape := ⟨3, ![3, 8, 1920]⟩
abbrev S8x1x1920 : Shape := ⟨3, ![8, 1, 1920]⟩
abbrev S2160x1920x4 : Shape := ⟨3, ![2160, 1920, 4]⟩
abbrev S16588800 : Shape := ⟨1, ![16588800]⟩
abbrev S2160x1920x16 : Shape := ⟨3, ![2160, 1920, 16]⟩
abbrev S4147200x4x4 : Shape := ⟨3, ![4147200, 4, 4]⟩
abbrev S16588800x4 : Shape := ⟨2, ![16588800, 4]⟩
abbrev S4213024x4 : Shape := ⟨2, ![4213024, 4]⟩
abbrev S16588800x1 : Shape := ⟨2, ![16588800, 1]⟩
abbrev S2x1096x1922x4 : Shape := ⟨4, ![2, 1096, 1922, 4]⟩
abbrev S2x4x1096x1922 : Shape := ⟨4, ![2, 4, 1096, 1922]⟩
abbrev S1x4x8x1922 : Shape := ⟨4, ![1, 4, 8, 1922]⟩
abbrev S1x4x8x1920 : Shape := ⟨4, ![1, 4, 8, 1920]⟩

abbrev nBuf : Space → Nat
  | .hbm => 33
  | .vmem => 23
  | .smem => 0
  | _ => 0

abbrev bufTy : (tb : Table) → Fin (tcTables nBuf tb) → BufTy
  | .hbm, ⟨0, _⟩ => ⟨S2x3x1080x1920, .f32⟩
  | .hbm, ⟨1, _⟩ => ⟨S1x2x3x1080x1920, .f32⟩
  | .hbm, ⟨2, _⟩ => ⟨S2x1x1080x1920, .f32⟩
  | .hbm, ⟨3, _⟩ => ⟨S2x2x1080x1920, .f32⟩
  | .hbm, ⟨4, _⟩ => ⟨S270x1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S1x1, .f32⟩
  | .hbm, ⟨10, _⟩ => ⟨S2160x4x1920, .i32⟩
  | .hbm, ⟨11, _⟩ => ⟨S2160x16x1920, .f32⟩
  | .hbm, ⟨12, _⟩ => ⟨S2160x1920x4, .i32⟩
  | .hbm, ⟨13, _⟩ => ⟨S16588800, .i32⟩
  | .hbm, ⟨14, _⟩ => ⟨S2160x1920x16, .f32⟩
  | .hbm, ⟨15, _⟩ => ⟨S4147200x4x4, .f32⟩
  | .hbm, ⟨16, _⟩ => ⟨S16588800x4, .f32⟩
  | .hbm, ⟨17, _⟩ => ⟨S_, .f32⟩
  | .hbm, ⟨18, _⟩ => ⟨S4213024x4, .f32⟩
  | .hbm, ⟨19, _⟩ => ⟨S_, .i32⟩
  | .hbm, ⟨20, _⟩ => ⟨S16588800, .i32⟩
  | .hbm, ⟨21, _⟩ => ⟨S16588800, .i1⟩
  | .hbm, ⟨22, _⟩ => ⟨S_, .i32⟩
  | .hbm, ⟨23, _⟩ => ⟨S16588800, .i32⟩
  | .hbm, ⟨24, _⟩ => ⟨S16588800, .i32⟩
  | .hbm, ⟨25, _⟩ => ⟨S16588800, .i32⟩
  | .hbm, ⟨26, _⟩ => ⟨S16588800x1, .i32⟩
  | .hbm, ⟨27, _⟩ => ⟨S4213024x4, .f32⟩
  | .hbm, ⟨28, _⟩ => ⟨S2x1096x1922x4, .f32⟩
  | .hbm, ⟨29, _⟩ => ⟨S2x4x1096x1922, .f32⟩
  | .hbm, ⟨30, _⟩ => ⟨S2x3x1080x1920, .f32⟩
  | .hbm, ⟨31, _⟩ => ⟨S2x3x1080x1920, .f32⟩
  | .hbm, ⟨32, _⟩ => ⟨S2x1x1080x1920, .f32⟩
  | .local _ .vmem, ⟨0, _⟩ => ⟨S1x1x8x1920, .f32⟩
  | .local _ .vmem, ⟨1, _⟩ => ⟨S1x1x8x1920, .f32⟩
  | .local _ .vmem, ⟨2, _⟩ => ⟨S1x1x1, .f32⟩
  | .local _ .vmem, ⟨3, _⟩ => ⟨S1x1x1, .f32⟩
  | .local _ .vmem, ⟨4, _⟩ => ⟨S1x1, .f32⟩
  | .local _ .vmem, ⟨5, _⟩ => ⟨S1x3x8x1920, .f32⟩
  | .local _ .vmem, ⟨6, _⟩ => ⟨S1x3x8x1920, .f32⟩
  | .local _ .vmem, ⟨7, _⟩ => ⟨S1x1x8x1920, .f32⟩
  | .local _ .vmem, ⟨8, _⟩ => ⟨S1x1x8x1920, .f32⟩
  | .local _ .vmem, ⟨9, _⟩ => ⟨S1x2x8x1920, .f32⟩
  | .local _ .vmem, ⟨10, _⟩ => ⟨S1x2x8x1920, .f32⟩
  | .local _ .vmem, ⟨11, _⟩ => ⟨S8x4x1920, .i32⟩
  | .local _ .vmem, ⟨12, _⟩ => ⟨S8x4x1920, .i32⟩
  | .local _ .vmem, ⟨13, _⟩ => ⟨S8x16x1920, .f32⟩
  | .local _ .vmem, ⟨14, _⟩ => ⟨S8x16x1920, .f32⟩
  | .local _ .vmem, ⟨15, _⟩ => ⟨S1x4x8x1922, .f32⟩
  | .local _ .vmem, ⟨16, _⟩ => ⟨S1x4x8x1922, .f32⟩
  | .local _ .vmem, ⟨17, _⟩ => ⟨S1x3x8x1920, .f32⟩
  | .local _ .vmem, ⟨18, _⟩ => ⟨S1x3x8x1920, .f32⟩
  | .local _ .vmem, ⟨19, _⟩ => ⟨S1x3x8x1920, .f32⟩
  | .local _ .vmem, ⟨20, _⟩ => ⟨S1x3x8x1920, .f32⟩
  | .local _ .vmem, ⟨21, _⟩ => ⟨S1x1x8x1920, .f32⟩
  | .local _ .vmem, ⟨22, _⟩ => ⟨S1x1x8x1920, .f32⟩
  | _, _ => ⟨S2x3x1080x1920, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21_0 : Ref sig .tc := ⟨.hbm, 31, rfl⟩
abbrev main_v21_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem4_1 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem3_1 : DmaSem sig := 22

abbrev nD : Nat := 1
abbrev τ : Topo := Topo.v7x

variable {F : FTy → Type} [FloatOps F]

abbrev grid0 : Pipeline.Grid := ⟨1, ![270], ![false]⟩

def cc0_transform_0 (i : grid0.Coords) : Fin 4 → Nat :=
  let arg0 : BitVec 32 := BitVec.ofNat 32 (i 0).val
  let c135_i32 : BitVec 32 := 135#32
  let v0 : BitVec 32 := Scalar.divsi arg0 c135_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c135_i32 c0_i32_1
  let v7 : BitVec 32 := Scalar.extui v6
  let c0_i32_2 : BitVec 32 := 0#32
  let v8 : BitVec 1 := Scalar.cmpi .slt c135_i32 c0_i32_2
  let v9 : BitVec 32 := Scalar.extui v8
  let v10 : BitVec 32 := Scalar.subi v7 v9
  let v11 : BitVec 1 := Scalar.cmpi .ne v5 v10
  let v12 : BitVec 32 := Scalar.remsi arg0 c135_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c135_i32_4 : BitVec 32 := 135#32
  let c0_i32_5 : BitVec 32 := 0#32
  let v17 : BitVec 1 := Scalar.cmpi .eq c135_i32_4 c0_i32_5
  let c1_i32_6 : BitVec 32 := 1#32
  let v18 : BitVec 32 := Scalar.select v17 c1_i32_6 c135_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x8x1920 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 135], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_4 (i : grid1.Coords) : Fin 3 → Nat :=
  let arg0 : BitVec 32 := BitVec.ofNat 32 (i 0).val
  let arg1 : BitVec 32 := BitVec.ofNat 32 (i 1).val
  let c135_i32 : BitVec 32 := 135#32
  let v0 : BitVec 32 := Scalar.muli arg0 c135_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c135_i32 : BitVec 32 := 135#32
  let v0 : BitVec 32 := Scalar.muli arg0 c135_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage1_0 : Fin 1 → Memref sig .tc .vmem S1x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1x3x8x1920 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x8x1920 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x2x8x1920 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S8x4x1920 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S8x16x1920 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨2, ![2, 135], ![false, false]⟩

def cc2_transform_0 (i : grid2.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, c0_i32.toNat, v0.toNat, c0_i32_0.toNat]

def cc2_transform_1 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc2_transform_2 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc2_transform_3 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage2_0 : Fin 2 → Memref sig .tc .vmem S1x4x8x1922 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x3x8x1920 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x3x8x1920 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x1x8x1920 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]
-- ==== ReferenceIdeal.lean ====
abbrev S2x3x1080x1920 : Shape := ⟨4, ![2, 3, 1080, 1920]⟩
abbrev S1x2x3x1080x1920 : Shape := ⟨5, ![1, 2, 3, 1080, 1920]⟩
abbrev S2x1x1080x1920 : Shape := ⟨4, ![2, 1, 1080, 1920]⟩
abbrev S2x2x1080x1920 : Shape := ⟨4, ![2, 2, 1080, 1920]⟩
abbrev S1920 : Shape := ⟨1, ![1920]⟩
abbrev S1x1x1x1920 : Shape := ⟨4, ![1, 1, 1, 1920]⟩
abbrev S1080 : Shape := ⟨1, ![1080]⟩
abbrev S1x1x1080x1 : Shape := ⟨4, ![1, 1, 1080, 1]⟩
abbrev S_ : Shape := ⟨0, ![]⟩
abbrev S2x1080x1920 : Shape := ⟨3, ![2, 1080, 1920]⟩
abbrev S2x1080x1920x1 : Shape := ⟨4, ![2, 1080, 1920, 1]⟩
abbrev S2x1080x1920x3 : Shape := ⟨4, ![2, 1080, 1920, 3]⟩
abbrev S2 : Shape := ⟨1, ![2]⟩
abbrev S2x1x1 : Shape := ⟨3, ![2, 1, 1]⟩
abbrev S4147200 : Shape := ⟨1, ![4147200]⟩
abbrev S4159208x3 : Shape := ⟨2, ![4159208, 3]⟩
abbrev S4147200x3 : Shape := ⟨2, ![4147200, 3]⟩
abbrev S4147200x1 : Shape := ⟨2, ![4147200, 1]⟩
abbrev S4159208x1 : Shape := ⟨2, ![4159208, 1]⟩
abbrev S2x1082x1922x3 : Shape := ⟨4, ![2, 1082, 1922, 3]⟩
abbrev S2x1082x1922x1 : Shape := ⟨4, ![2, 1082, 1922, 1]⟩

abbrev nBuf : Space → Nat
  | .hbm => 326
  | .vmem => 0
  | .smem => 0
  | _ => 0

abbrev hbmTy0_0 (i : Nat) : BufTy := match i % 128 with
  | 0 => ⟨S2x3x1080x1920, .f32⟩
  | 1 => ⟨S1x2x3x1080x1920, .f32⟩
  | 2 => ⟨S2x1x1080x1920, .f32⟩
  | 3 => ⟨S2x2x1080x1920, .f32⟩
  | 4 => ⟨S1920, .f32⟩
  | 5 => ⟨S1x1x1x1920, .f32⟩
  | 6 => ⟨S2x1x1080x1920, .f32⟩
  | 7 => ⟨S1080, .f32⟩
  | 8 => ⟨S1x1x1080x1, .f32⟩
  | 9 => ⟨S2x1x1080x1920, .f32⟩
  | 10 => ⟨S2x2x1080x1920, .f32⟩
  | 11 => ⟨S2x2x1080x1920, .f32⟩
  | 12 => ⟨S_, .f32⟩
  | 13 => ⟨S2x2x1080x1920, .f32⟩
  | 14 => ⟨S2x2x1080x1920, .f32⟩
  | 15 => ⟨S2x2x1080x1920, .f32⟩
  | 16 => ⟨S2x2x1080x1920, .i32⟩
  | 17 => ⟨S2x2x1080x1920, .f32⟩
  | 18 => ⟨S2x2x1080x1920, .i32⟩
  | 19 => ⟨S2x1x1080x1920, .f32⟩
  | 20 => ⟨S2x1080x1920, .f32⟩
  | 21 => ⟨S_, .f32⟩
  | 22 => ⟨S_, .f32⟩
  | 23 => ⟨S_, .f32⟩
  | 24 => ⟨S2x1080x1920, .f32⟩
  | 25 => ⟨S2x1080x1920, .f32⟩
  | 26 => ⟨S_, .f32⟩
  | 27 => ⟨S2x1080x1920, .f32⟩
  | 28 => ⟨S2x1080x1920, .f32⟩
  | 29 => ⟨S2x1x1080x1920, .f32⟩
  | 30 => ⟨S2x1080x1920, .f32⟩
  | 31 => ⟨S_, .f32⟩
  | 32 => ⟨S_, .f32⟩
  | 33 => ⟨S_, .f32⟩
  | 34 => ⟨S2x1080x1920, .f32⟩
  | 35 => ⟨S2x1080x1920, .f32⟩
  | 36 => ⟨S_, .f32⟩
  | 37 => ⟨S2x1080x1920, .f32⟩
  | 38 => ⟨S2x1080x1920, .f32⟩
  | 39 => ⟨S2x1x1080x1920, .f32⟩
  | 40 => ⟨S2x1x1080x1920, .f32⟩
  | 41 => ⟨S2x2x1080x1920, .f32⟩
  | 42 => ⟨S2x1x1080x1920, .i32⟩
  | 43 => ⟨S2x1080x1920, .i32⟩
  | 44 => ⟨S_, .i32⟩
  | 45 => ⟨S_, .i32⟩
  | 46 => ⟨S_, .i32⟩
  | 47 => ⟨S2x1080x1920, .i32⟩
  | 48 => ⟨S2x1080x1920, .i32⟩
  | 49 => ⟨S_, .i32⟩
  | 50 => ⟨S2x1080x1920, .i32⟩
  | 51 => ⟨S2x1080x1920, .i32⟩
  | 52 => ⟨S2x1x1080x1920, .i32⟩
  | 53 => ⟨S2x1080x1920, .i32⟩
  | 54 => ⟨S_, .i32⟩
  | 55 => ⟨S_, .i32⟩
  | 56 => ⟨S_, .i32⟩
  | 57 => ⟨S2x1080x1920, .i32⟩
  | 58 => ⟨S2x1080x1920, .i32⟩
  | 59 => ⟨S_, .i32⟩
  | 60 => ⟨S2x1080x1920, .i32⟩
  | 61 => ⟨S2x1080x1920, .i32⟩
  | 62 => ⟨S2x1x1080x1920, .i32⟩
  | 63 => ⟨S2x1x1080x1920, .i32⟩
  | 64 => ⟨S2x2x1080x1920, .i32⟩
  | 65 => ⟨S2x1x1080x1920, .i32⟩
  | 66 => ⟨S2x1080x1920, .i32⟩
  | 67 => ⟨S_, .i32⟩
  | 68 => ⟨S_, .i32⟩
  | 69 => ⟨S_, .i32⟩
  | 70 => ⟨S2x1080x1920, .i32⟩
  | 71 => ⟨S2x1080x1920, .i32⟩
  | 72 => ⟨S_, .i32⟩
  | 73 => ⟨S2x1080x1920, .i32⟩
  | 74 => ⟨S2x1080x1920, .i32⟩
  | 75 => ⟨S2x1x1080x1920, .i32⟩
  | 76 => ⟨S2x1080x1920, .i32⟩
  | 77 => ⟨S_, .i32⟩
  | 78 => ⟨S_, .i32⟩
  | 79 => ⟨S_, .i32⟩
  | 80 => ⟨S2x1080x1920, .i32⟩
  | 81 => ⟨S2x1080x1920, .i32⟩
  | 82 => ⟨S_, .i32⟩
  | 83 => ⟨S2x1080x1920, .i32⟩
  | 84 => ⟨S2x1080x1920, .i32⟩
  | 85 => ⟨S2x1x1080x1920, .i32⟩
  | 86 => ⟨S2x1x1080x1920, .i32⟩
  | 87 => ⟨S2x2x1080x1920, .i32⟩
  | 88 => ⟨S2x1x1080x1920, .i32⟩
  | 89 => ⟨S2x1x1080x1920, .f32⟩
  | 90 => ⟨S2x1x1080x1920, .i32⟩
  | 91 => ⟨S2x1x1080x1920, .f32⟩
  | 92 => ⟨S2x1x1080x1920, .f32⟩
  | 93 => ⟨S2x1x1080x1920, .f32⟩
  | 94 => ⟨S_, .f32⟩
  | 95 => ⟨S2x1x1080x1920, .f32⟩
  | 96 => ⟨S2x1x1080x1920, .f32⟩
  | 97 => ⟨S2x1x1080x1920, .f32⟩
  | 98 => ⟨S2x1x1080x1920, .f32⟩
  | 99 => ⟨S_, .f32⟩
  | 100 => ⟨S2x1x1080x1920, .f32⟩
  | 101 => ⟨S2x1x1080x1920, .f32⟩
  | 102 => ⟨S2x1x1080x1920, .f32⟩
  | 103 => ⟨S2x1x1080x1920, .f32⟩
  | 104 => ⟨S2x1x1080x1920, .f32⟩
  | 105 => ⟨S2x1x1080x1920, .f32⟩
  | 106 => ⟨S2x1x1080x1920, .f32⟩
  | 107 => ⟨S_, .f32⟩
  | 108 => ⟨S2x1x1080x1920, .f32⟩
  | 109 => ⟨S2x1x1080x1920, .f32⟩
  | 110 => ⟨S2x1x1080x1920, .f32⟩
  | 111 => ⟨S2x1x1080x1920, .f32⟩
  | 112 => ⟨S2x1x1080x1920, .f32⟩
  | 113 => ⟨S_, .f32⟩
  | 114 => ⟨S2x1x1080x1920, .f32⟩
  | 115 => ⟨S2x1x1080x1920, .f32⟩
  | 116 => ⟨S2x1x1080x1920, .f32⟩
  | 117 => ⟨S2x1x1080x1920, .f32⟩
  | 118 => ⟨S2x1x1080x1920, .f32⟩
  | 119 => ⟨S2x1x1080x1920, .f32⟩
  | 120 => ⟨S2x1x1080x1920, .f32⟩
  | 121 => ⟨S2x1x1080x1920, .f32⟩
  | 122 => ⟨S2x1x1080x1920, .f32⟩
  | 123 => ⟨S2x1x1080x1920, .f32⟩
  | 124 => ⟨S_, .f32⟩
  | 125 => ⟨S_, .f32⟩
  | 126 => ⟨S_, .f32⟩
  | 127 => ⟨S2x1x1080x1920, .f32⟩
  | _ => ⟨S2x3x1080x1920, .f32⟩

abbrev hbmTy0_1 (i : Nat) : BufTy := match i % 128 with
  | 0 => ⟨S2x1x1080x1920, .f32⟩
  | 1 => ⟨S_, .f32⟩
  | 2 => ⟨S2x1x1080x1920, .f32⟩
  | 3 => ⟨S2x1x1080x1920, .f32⟩
  | 4 => ⟨S2x1x1080x1920, .f32⟩
  | 5 => ⟨S_, .f32⟩
  | 6 => ⟨S_, .f32⟩
  | 7 => ⟨S2x1x1080x1920, .f32⟩
  | 8 => ⟨S2x1x1080x1920, .f32⟩
  | 9 => ⟨S_, .f32⟩
  | 10 => ⟨S2x1x1080x1920, .f32⟩
  | 11 => ⟨S2x1x1080x1920, .f32⟩
  | 12 => ⟨S2x1x1080x1920, .f32⟩
  | 13 => ⟨S2x1x1080x1920, .f32⟩
  | 14 => ⟨S2x1080x1920x1, .f32⟩
  | 15 => ⟨S2x1x1080x1920, .f32⟩
  | 16 => ⟨S2x1080x1920x1, .f32⟩
  | 17 => ⟨S2x1x1080x1920, .f32⟩
  | 18 => ⟨S2x1080x1920x1, .f32⟩
  | 19 => ⟨S2x1x1080x1920, .f32⟩
  | 20 => ⟨S2x1080x1920x1, .f32⟩
  | 21 => ⟨S2x1080x1920x3, .f32⟩
  | 22 => ⟨S2, .i32⟩
  | 23 => ⟨S2x1x1, .i32⟩
  | 24 => ⟨S2x1080x1920, .i32⟩
  | 25 => ⟨S2x1x1080x1920, .i32⟩
  | 26 => ⟨S2x1080x1920, .i32⟩
  | 27 => ⟨S2x1x1080x1920, .i32⟩
  | 28 => ⟨S2x1080x1920, .i32⟩
  | 29 => ⟨S2x1x1080x1920, .i32⟩
  | 30 => ⟨S2x1080x1920, .i32⟩
  | 31 => ⟨S2x1x1080x1920, .i32⟩
  | 32 => ⟨S2x1080x1920, .i32⟩
  | 33 => ⟨S_, .i32⟩
  | 34 => ⟨S2x1080x1920, .i32⟩
  | 35 => ⟨S2x1080x1920, .i32⟩
  | 36 => ⟨S2x1080x1920, .i32⟩
  | 37 => ⟨S_, .i32⟩
  | 38 => ⟨S2x1080x1920, .i32⟩
  | 39 => ⟨S2x1080x1920, .i32⟩
  | 40 => ⟨S2x1080x1920, .i32⟩
  | 41 => ⟨S4147200, .i32⟩
  | 42 => ⟨S_, .i32⟩
  | 43 => ⟨S2x1080x1920, .i32⟩
  | 44 => ⟨S2x1080x1920, .i32⟩
  | 45 => ⟨S2x1080x1920, .i32⟩
  | 46 => ⟨S_, .i32⟩
  | 47 => ⟨S2x1080x1920, .i32⟩
  | 48 => ⟨S2x1080x1920, .i32⟩
  | 49 => ⟨S2x1080x1920, .i32⟩
  | 50 => ⟨S4147200, .i32⟩
  | 51 => ⟨S_, .i32⟩
  | 52 => ⟨S2x1080x1920, .i32⟩
  | 53 => ⟨S2x1080x1920, .i32⟩
  | 54 => ⟨S2x1080x1920, .i32⟩
  | 55 => ⟨S_, .i32⟩
  | 56 => ⟨S2x1080x1920, .i32⟩
  | 57 => ⟨S2x1080x1920, .i32⟩
  | 58 => ⟨S2x1080x1920, .i32⟩
  | 59 => ⟨S4147200, .i32⟩
  | 60 => ⟨S_, .i32⟩
  | 61 => ⟨S2x1080x1920, .i32⟩
  | 62 => ⟨S2x1080x1920, .i32⟩
  | 63 => ⟨S2x1080x1920, .i32⟩
  | 64 => ⟨S_, .i32⟩
  | 65 => ⟨S2x1080x1920, .i32⟩
  | 66 => ⟨S2x1080x1920, .i32⟩
  | 67 => ⟨S2x1080x1920, .i32⟩
  | 68 => ⟨S4147200, .i32⟩
  | 69 => ⟨S_, .f32⟩
  | 70 => ⟨S4159208x3, .f32⟩
  | 71 => ⟨S2x1080x1920x3, .f32⟩
  | 72 => ⟨S2x1080x1920x3, .f32⟩
  | 73 => ⟨S4147200x3, .f32⟩
  | 74 => ⟨S_, .i32⟩
  | 75 => ⟨S4147200, .i32⟩
  | 76 => ⟨S4147200, .i1⟩
  | 77 => ⟨S_, .i32⟩
  | 78 => ⟨S4147200, .i32⟩
  | 79 => ⟨S4147200, .i32⟩
  | 80 => ⟨S4147200, .i32⟩
  | 81 => ⟨S4147200x1, .i32⟩
  | 82 => ⟨S4159208x3, .f32⟩
  | 83 => ⟨S2x1080x1920x3, .f32⟩
  | 84 => ⟨S2x1080x1920x3, .f32⟩
  | 85 => ⟨S4147200x3, .f32⟩
  | 86 => ⟨S_, .i32⟩
  | 87 => ⟨S4147200, .i32⟩
  | 88 => ⟨S4147200, .i1⟩
  | 89 => ⟨S_, .i32⟩
  | 90 => ⟨S4147200, .i32⟩
  | 91 => ⟨S4147200, .i32⟩
  | 92 => ⟨S4147200, .i32⟩
  | 93 => ⟨S4147200x1, .i32⟩
  | 94 => ⟨S4159208x3, .f32⟩
  | 95 => ⟨S2x1080x1920x3, .f32⟩
  | 96 => ⟨S2x1080x1920x3, .f32⟩
  | 97 => ⟨S4147200x3, .f32⟩
  | 98 => ⟨S_, .i32⟩
  | 99 => ⟨S4147200, .i32⟩
  | 100 => ⟨S4147200, .i1⟩
  | 101 => ⟨S_, .i32⟩
  | 102 => ⟨S4147200, .i32⟩
  | 103 => ⟨S4147200, .i32⟩
  | 104 => ⟨S4147200, .i32⟩
  | 105 => ⟨S4147200x1, .i32⟩
  | 106 => ⟨S4159208x3, .f32⟩
  | 107 => ⟨S2x1080x1920x3, .f32⟩
  | 108 => ⟨S2x1080x1920x3, .f32⟩
  | 109 => ⟨S4147200x3, .f32⟩
  | 110 => ⟨S_, .i32⟩
  | 111 => ⟨S4147200, .i32⟩
  | 112 => ⟨S4147200, .i1⟩
  | 113 => ⟨S_, .i32⟩
  | 114 => ⟨S4147200, .i32⟩
  | 115 => ⟨S4147200, .i32⟩
  | 116 => ⟨S4147200, .i32⟩
  | 117 => ⟨S4147200x1, .i32⟩
  | 118 => ⟨S4159208x3, .f32⟩
  | 119 => ⟨S_, .f32⟩
  | 120 => ⟨S4159208x1, .f32⟩
  | 121 => ⟨S4147200x1, .f32⟩
  | 122 => ⟨S_, .i32⟩
  | 123 => ⟨S4147200, .i32⟩
  | 124 => ⟨S4147200, .i1⟩
  | 125 => ⟨S_, .i32⟩
  | 126 => ⟨S4147200, .i32⟩
  | 127 => ⟨S4147200, .i32⟩
  | _ => ⟨S2x3x1080x1920, .f32⟩

abbrev hbmTy0_2 (i : Nat) : BufTy := match i % 128 with
  | 0 => ⟨S4147200, .i32⟩
  | 1 => ⟨S4147200x1, .i32⟩
  | 2 => ⟨S4159208x1, .f32⟩
  | 3 => ⟨S4147200x1, .f32⟩
  | 4 => ⟨S_, .i32⟩
  | 5 => ⟨S4147200, .i32⟩
  | 6 => ⟨S4147200, .i1⟩
  | 7 => ⟨S_, .i32⟩
  | 8 => ⟨S4147200, .i32⟩
  | 9 => ⟨S4147200, .i32⟩
  | 10 => ⟨S4147200, .i32⟩
  | 11 => ⟨S4147200x1, .i32⟩
  | 12 => ⟨S4159208x1, .f32⟩
  | 13 => ⟨S4147200x1, .f32⟩
  | 14 => ⟨S_, .i32⟩
  | 15 => ⟨S4147200, .i32⟩
  | 16 => ⟨S4147200, .i1⟩
  | 17 => ⟨S_, .i32⟩
  | 18 => ⟨S4147200, .i32⟩
  | 19 => ⟨S4147200, .i32⟩
  | 20 => ⟨S4147200, .i32⟩
  | 21 => ⟨S4147200x1, .i32⟩
  | 22 => ⟨S4159208x1, .f32⟩
  | 23 => ⟨S4147200x1, .f32⟩
  | 24 => ⟨S_, .i32⟩
  | 25 => ⟨S4147200, .i32⟩
  | 26 => ⟨S4147200, .i1⟩
  | 27 => ⟨S_, .i32⟩
  | 28 => ⟨S4147200, .i32⟩
  | 29 => ⟨S4147200, .i32⟩
  | 30 => ⟨S4147200, .i32⟩
  | 31 => ⟨S4147200x1, .i32⟩
  | 32 => ⟨S4159208x1, .f32⟩
  | 33 => ⟨S2x1082x1922x3, .f32⟩
  | 34 => ⟨S2x1080x1920x3, .f32⟩
  | 35 => ⟨S2x1082x1922x1, .f32⟩
  | 36 => ⟨S2x1080x1920x1, .f32⟩
  | 37 => ⟨S_, .f32⟩
  | 38 => ⟨S2x1080x1920x1, .f32⟩
  | 39 => ⟨S2x1080x1920x1, .i1⟩
  | 40 => ⟨S_, .f32⟩
  | 41 => ⟨S2x1080x1920x1, .f32⟩
  | 42 => ⟨S2x1080x1920x1, .f32⟩
  | 43 => ⟨S2x1080x1920x3, .f32⟩
  | 44 => ⟨S2x1080x1920x3, .f32⟩
  | 45 => ⟨S_, .f32⟩
  | 46 => ⟨S_, .f32⟩
  | 47 => ⟨S2x1080x1920x3, .i1⟩
  | 48 => ⟨S2x1080x1920x3, .f32⟩
  | 49 => ⟨S2x1080x1920x3, .f32⟩
  | 50 => ⟨S_, .f32⟩
  | 51 => ⟨S_, .f32⟩
  | 52 => ⟨S_, .f32⟩
  | 53 => ⟨S2x1080x1920x3, .f32⟩
  | 54 => ⟨S2x1080x1920x3, .f32⟩
  | 55 => ⟨S_, .f32⟩
  | 56 => ⟨S2x1080x1920x3, .f32⟩
  | 57 => ⟨S2x1080x1920x3, .f32⟩
  | 58 => ⟨S2x1080x1920x1, .f32⟩
  | 59 => ⟨S2x3x1080x1920, .f32⟩
  | 60 => ⟨S2x1x1080x1920, .f32⟩
  | 61 => ⟨S2x3x1080x1920, .f32⟩
  | 62 => ⟨S2x3x1080x1920, .f32⟩
  | 63 => ⟨S2x3x1080x1920, .f32⟩
  | 64 => ⟨S_, .f32⟩
  | 65 => ⟨S2x1x1080x1920, .f32⟩
  | 66 => ⟨S2x1x1080x1920, .f32⟩
  | 67 => ⟨S2x3x1080x1920, .f32⟩
  | 68 => ⟨S2x3x1080x1920, .f32⟩
  | 69 => ⟨S2x3x1080x1920, .f32⟩
  | _ => ⟨S2x3x1080x1920, .f32⟩

abbrev hbmTy (i : Nat) : BufTy := match i / 128 with
  | 0 => hbmTy0_0 i
  | 1 => hbmTy0_1 i
  | 2 => hbmTy0_2 i
  | _ => ⟨S2x3x1080x1920, .f32⟩

abbrev bufTy : (tb : Table) → Fin (tcTables nBuf tb) → BufTy
  | .hbm, ⟨i, _⟩ => hbmTy i
  | _, _ => ⟨S2x3x1080x1920, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_cst_3 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c : Ref sig .tc := ⟨.hbm, 44, rfl⟩
abbrev main_c_4 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_c_5 : Ref sig .tc := ⟨.hbm, 54, rfl⟩
abbrev main_c_6 : Ref sig .tc := ⟨.hbm, 55, rfl⟩
abbrev main_call3_v0 : Ref sig .tc := ⟨.hbm, 56, rfl⟩
abbrev main_call3_v1 : Ref sig .tc := ⟨.hbm, 57, rfl⟩
abbrev main_call3_v2 : Ref sig .tc := ⟨.hbm, 58, rfl⟩
abbrev main_call3_v3 : Ref sig .tc := ⟨.hbm, 59, rfl⟩
abbrev main_call3_v4 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_c_7 : Ref sig .tc := ⟨.hbm, 67, rfl⟩
abbrev main_c_8 : Ref sig .tc := ⟨.hbm, 68, rfl⟩
abbrev main_call4_v0 : Ref sig .tc := ⟨.hbm, 69, rfl⟩
abbrev main_call4_v1 : Ref sig .tc := ⟨.hbm, 70, rfl⟩
abbrev main_call4_v2 : Ref sig .tc := ⟨.hbm, 71, rfl⟩
abbrev main_call4_v3 : Ref sig .tc := ⟨.hbm, 72, rfl⟩
abbrev main_call4_v4 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_c_9 : Ref sig .tc := ⟨.hbm, 77, rfl⟩
abbrev main_c_10 : Ref sig .tc := ⟨.hbm, 78, rfl⟩
abbrev main_call5_v0 : Ref sig .tc := ⟨.hbm, 79, rfl⟩
abbrev main_call5_v1 : Ref sig .tc := ⟨.hbm, 80, rfl⟩
abbrev main_call5_v2 : Ref sig .tc := ⟨.hbm, 81, rfl⟩
abbrev main_call5_v3 : Ref sig .tc := ⟨.hbm, 82, rfl⟩
abbrev main_call5_v4 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_cst_11 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_cst_12 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_cst_13 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_cst_14 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_cst_15 : Ref sig .tc := ⟨.hbm, 124, rfl⟩
abbrev main_cst_16 : Ref sig .tc := ⟨.hbm, 125, rfl⟩
abbrev main_call6_v0 : Ref sig .tc := ⟨.hbm, 126, rfl⟩
abbrev main_call6_v1 : Ref sig .tc := ⟨.hbm, 127, rfl⟩
abbrev main_call6_v2 : Ref sig .tc := ⟨.hbm, 128, rfl⟩
abbrev main_call6_v3 : Ref sig .tc := ⟨.hbm, 129, rfl⟩
abbrev main_call6_v4 : Ref sig .tc := ⟨.hbm, 130, rfl⟩
abbrev main_v73 : Ref sig .tc := ⟨.hbm, 131, rfl⟩
abbrev main_v74 : Ref sig .tc := ⟨.hbm, 132, rfl⟩
abbrev main_cst_17 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_cst_18 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_c_19 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_c_20 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_c_21 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_c_22 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_c_23 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_c_24 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_v121 : Ref sig .tc := ⟨.hbm, 187, rfl⟩
abbrev main_c_25 : Ref sig .tc := ⟨.hbm, 188, rfl⟩
abbrev main_v122 : Ref sig .tc := ⟨.hbm, 189, rfl⟩
abbrev main_v123 : Ref sig .tc := ⟨.hbm, 190, rfl⟩
abbrev main_v124 : Ref sig .tc := ⟨.hbm, 191, rfl⟩
abbrev main_c_26 : Ref sig .tc := ⟨.hbm, 192, rfl⟩
abbrev main_v125 : Ref sig .tc := ⟨.hbm, 193, rfl⟩
abbrev main_v126 : Ref sig .tc := ⟨.hbm, 194, rfl⟩
abbrev main_v127 : Ref sig .tc := ⟨.hbm, 195, rfl⟩
abbrev main_v128 : Ref sig .tc := ⟨.hbm, 196, rfl⟩
abbrev main_cst_27 : Ref sig .tc := ⟨.hbm, 197, rfl⟩
abbrev main_v129 : Ref sig .tc := ⟨.hbm, 198, rfl⟩
abbrev main_v130 : Ref sig .tc := ⟨.hbm, 199, rfl⟩
abbrev main_v131 : Ref sig .tc := ⟨.hbm, 200, rfl⟩
abbrev main_v132 : Ref sig .tc := ⟨.hbm, 201, rfl⟩
abbrev main_c_28 : Ref sig .tc := ⟨.hbm, 202, rfl⟩
abbrev main_v133 : Ref sig .tc := ⟨.hbm, 203, rfl⟩
abbrev main_v134 : Ref sig .tc := ⟨.hbm, 204, rfl⟩
abbrev main_c_29 : Ref sig .tc := ⟨.hbm, 205, rfl⟩
abbrev main_v135 : Ref sig .tc := ⟨.hbm, 206, rfl⟩
abbrev main_v136 : Ref sig .tc := ⟨.hbm, 207, rfl⟩
abbrev main_v137 : Ref sig .tc := ⟨.hbm, 208, rfl⟩
abbrev main_v138 : Ref sig .tc := ⟨.hbm, 209, rfl⟩
abbrev main_v139 : Ref sig .tc := ⟨.hbm, 210, rfl⟩
abbrev main_v140 : Ref sig .tc := ⟨.hbm, 211, rfl⟩
abbrev main_v141 : Ref sig .tc := ⟨.hbm, 212, rfl⟩
abbrev main_v142 : Ref sig .tc := ⟨.hbm, 213, rfl⟩
abbrev main_c_30 : Ref sig .tc := ⟨.hbm, 214, rfl⟩
abbrev main_v143 : Ref sig .tc := ⟨.hbm, 215, rfl⟩
abbrev main_v144 : Ref sig .tc := ⟨.hbm, 216, rfl⟩
abbrev main_c_31 : Ref sig .tc := ⟨.hbm, 217, rfl⟩
abbrev main_v145 : Ref sig .tc := ⟨.hbm, 218, rfl⟩
abbrev main_v146 : Ref sig .tc := ⟨.hbm, 219, rfl⟩
abbrev main_v147 : Ref sig .tc := ⟨.hbm, 220, rfl⟩
abbrev main_v148 : Ref sig .tc := ⟨.hbm, 221, rfl⟩
abbrev main_v149 : Ref sig .tc := ⟨.hbm, 222, rfl⟩
abbrev main_v150 : Ref sig .tc := ⟨.hbm, 223, rfl⟩
abbrev main_v151 : Ref sig .tc := ⟨.hbm, 224, rfl⟩
abbrev main_v152 : Ref sig .tc := ⟨.hbm, 225, rfl⟩
abbrev main_c_32 : Ref sig .tc := ⟨.hbm, 226, rfl⟩
abbrev main_v153 : Ref sig .tc := ⟨.hbm, 227, rfl⟩
abbrev main_v154 : Ref sig .tc := ⟨.hbm, 228, rfl⟩
abbrev main_c_33 : Ref sig .tc := ⟨.hbm, 229, rfl⟩
abbrev main_v155 : Ref sig .tc := ⟨.hbm, 230, rfl⟩
abbrev main_v156 : Ref sig .tc := ⟨.hbm, 231, rfl⟩
abbrev main_v157 : Ref sig .tc := ⟨.hbm, 232, rfl⟩
abbrev main_v158 : Ref sig .tc := ⟨.hbm, 233, rfl⟩
abbrev main_v159 : Ref sig .tc := ⟨.hbm, 234, rfl⟩
abbrev main_v160 : Ref sig .tc := ⟨.hbm, 235, rfl⟩
abbrev main_v161 : Ref sig .tc := ⟨.hbm, 236, rfl⟩
abbrev main_v162 : Ref sig .tc := ⟨.hbm, 237, rfl⟩
abbrev main_c_34 : Ref sig .tc := ⟨.hbm, 238, rfl⟩
abbrev main_v163 : Ref sig .tc := ⟨.hbm, 239, rfl⟩
abbrev main_v164 : Ref sig .tc := ⟨.hbm, 240, rfl⟩
abbrev main_c_35 : Ref sig .tc := ⟨.hbm, 241, rfl⟩
abbrev main_v165 : Ref sig .tc := ⟨.hbm, 242, rfl⟩
abbrev main_v166 : Ref sig .tc := ⟨.hbm, 243, rfl⟩
abbrev main_v167 : Ref sig .tc := ⟨.hbm, 244, rfl⟩
abbrev main_v168 : Ref sig .tc := ⟨.hbm, 245, rfl⟩
abbrev main_v169 : Ref sig .tc := ⟨.hbm, 246, rfl⟩
abbrev main_cst_36 : Ref sig .tc := ⟨.hbm, 247, rfl⟩
abbrev main_v170 : Ref sig .tc := ⟨.hbm, 248, rfl⟩
abbrev main_v171 : Ref sig .tc := ⟨.hbm, 249, rfl⟩
abbrev main_c_37 : Ref sig .tc := ⟨.hbm, 250, rfl⟩
abbrev main_v172 : Ref sig .tc := ⟨.hbm, 251, rfl⟩
abbrev main_v173 : Ref sig .tc := ⟨.hbm, 252, rfl⟩
abbrev main_c_38 : Ref sig .tc := ⟨.hbm, 253, rfl⟩
abbrev main_v174 : Ref sig .tc := ⟨.hbm, 254, rfl⟩
abbrev main_v175 : Ref sig .tc := ⟨.hbm, 255, rfl⟩
abbrev main_v176 : Ref sig .tc := ⟨.hbm, 256, rfl⟩
abbrev main_v177 : Ref sig .tc := ⟨.hbm, 257, rfl⟩
abbrev main_v178 : Ref sig .tc := ⟨.hbm, 258, rfl⟩
abbrev main_v179 : Ref sig .tc := ⟨.hbm, 259, rfl⟩
abbrev main_c_39 : Ref sig .tc := ⟨.hbm, 260, rfl⟩
abbrev main_v180 : Ref sig .tc := ⟨.hbm, 261, rfl⟩
abbrev main_v181 : Ref sig .tc := ⟨.hbm, 262, rfl⟩
abbrev main_c_40 : Ref sig .tc := ⟨.hbm, 263, rfl⟩
abbrev main_v182 : Ref sig .tc := ⟨.hbm, 264, rfl⟩
abbrev main_v183 : Ref sig .tc := ⟨.hbm, 265, rfl⟩
abbrev main_v184 : Ref sig .tc := ⟨.hbm, 266, rfl⟩
abbrev main_v185 : Ref sig .tc := ⟨.hbm, 267, rfl⟩
abbrev main_v186 : Ref sig .tc := ⟨.hbm, 268, rfl⟩
abbrev main_v187 : Ref sig .tc := ⟨.hbm, 269, rfl⟩
abbrev main_c_41 : Ref sig .tc := ⟨.hbm, 270, rfl⟩
abbrev main_v188 : Ref sig .tc := ⟨.hbm, 271, rfl⟩
abbrev main_v189 : Ref sig .tc := ⟨.hbm, 272, rfl⟩
abbrev main_c_42 : Ref sig .tc := ⟨.hbm, 273, rfl⟩
abbrev main_v190 : Ref sig .tc := ⟨.hbm, 274, rfl⟩
abbrev main_v191 : Ref sig .tc := ⟨.hbm, 275, rfl⟩
abbrev main_v192 : Ref sig .tc := ⟨.hbm, 276, rfl⟩
abbrev main_v193 : Ref sig .tc := ⟨.hbm, 277, rfl⟩
abbrev main_v194 : Ref sig .tc := ⟨.hbm, 278, rfl⟩
abbrev main_v195 : Ref sig .tc := ⟨.hbm, 279, rfl⟩
abbrev main_c_43 : Ref sig .tc := ⟨.hbm, 280, rfl⟩
abbrev main_v196 : Ref sig .tc := ⟨.hbm, 281, rfl⟩
abbrev main_v197 : Ref sig .tc := ⟨.hbm, 282, rfl⟩
abbrev main_c_44 : Ref sig .tc := ⟨.hbm, 283, rfl⟩
abbrev main_v198 : Ref sig .tc := ⟨.hbm, 284, rfl⟩
abbrev main_v199 : Ref sig .tc := ⟨.hbm, 285, rfl⟩
abbrev main_v200 : Ref sig .tc := ⟨.hbm, 286, rfl⟩
abbrev main_v201 : Ref sig .tc := ⟨.hbm, 287, rfl⟩
abbrev main_v202 : Ref sig .tc := ⟨.hbm, 288, rfl⟩
abbrev main_v203 : Ref sig .tc := ⟨.hbm, 289, rfl⟩
abbrev main_v204 : Ref sig .tc := ⟨.hbm, 290, rfl⟩
abbrev main_v205 : Ref sig .tc := ⟨.hbm, 291, rfl⟩
abbrev main_v206 : Ref sig .tc := ⟨.hbm, 292, rfl⟩
abbrev main_cst_45 : Ref sig .tc := ⟨.hbm, 293, rfl⟩
abbrev main_v207 : Ref sig .tc := ⟨.hbm, 294, rfl⟩
abbrev main_v208 : Ref sig .tc := ⟨.hbm, 295, rfl⟩
abbrev main_cst_46 : Ref sig .tc := ⟨.hbm, 296, rfl⟩
abbrev main_v209 : Ref sig .tc := ⟨.hbm, 297, rfl⟩
abbrev main_v210 : Ref sig .tc := ⟨.hbm, 298, rfl⟩
abbrev main_v211 : Ref sig .tc := ⟨.hbm, 299, rfl⟩
abbrev main_v212 : Ref sig .tc := ⟨.hbm, 300, rfl⟩
abbrev main_cst_47 : Ref sig .tc := ⟨.hbm, 301, rfl⟩
abbrev main_call8_v0 : Ref sig .tc := ⟨.hbm, 302, rfl⟩
abbrev main_call8_v1 : Ref sig .tc := ⟨.hbm, 303, rfl⟩
abbrev main_call8_v2 : Ref sig .tc := ⟨.hbm, 304, rfl⟩
abbrev main_v213 : Ref sig .tc := ⟨.hbm, 305, rfl⟩
abbrev main_cst_48 : Ref sig .tc := ⟨.hbm, 306, rfl⟩
abbrev main_cst_49 : Ref sig .tc := ⟨.hbm, 307, rfl⟩
abbrev main_call9_v0 : Ref sig .tc := ⟨.hbm, 308, rfl⟩
abbrev main_call9_v1 : Ref sig .tc := ⟨.hbm, 309, rfl⟩
abbrev main_call9_v2 : Ref sig .tc := ⟨.hbm, 310, rfl⟩
abbrev main_call9_v3 : Ref sig .tc := ⟨.hbm, 311, rfl⟩
abbrev main_call9_v4 : Ref sig .tc := ⟨.hbm, 312, rfl⟩
abbrev main_v214 : Ref sig .tc := ⟨.hbm, 313, rfl⟩
abbrev main_v215 : Ref sig .tc := ⟨.hbm, 314, rfl⟩
abbrev main_v216 : Ref sig .tc := ⟨.hbm, 315, rfl⟩
abbrev main_v217 : Ref sig .tc := ⟨.hbm, 316, rfl⟩
abbrev main_v218 : Ref sig .tc := ⟨.hbm, 317, rfl⟩
abbrev main_v219 : Ref sig .tc := ⟨.hbm, 318, rfl⟩
abbrev main_v220 : Ref sig .tc := ⟨.hbm, 319, rfl⟩
abbrev main_cst_50 : Ref sig .tc := ⟨.hbm, 320, rfl⟩
abbrev main_v221 : Ref sig .tc := ⟨.hbm, 321, rfl⟩
abbrev main_v222 : Ref sig .tc := ⟨.hbm, 322, rfl⟩
abbrev main_v223 : Ref sig .tc := ⟨.hbm, 323, rfl⟩
abbrev main_v224 : Ref sig .tc := ⟨.hbm, 324, rfl⟩
abbrev main_v225 : Ref sig .tc := ⟨.hbm, 325, rfl⟩

abbrev nD : Nat := 1
abbrev τ : Topo := Topo.v7x

variable {F : FTy → Type} [FloatOps F]
-- ==== Proof.Run.lean ====
/- The idealized kernel's run, with what its two result arrays hold at the end. -/
module

public import proofs.«01_k».proof.Proof.Gen.KernelIdeal.Frame

@[expose] public section

set_option maxRecDepth 16384

noncomputable section

namespace Cert.KernelIdeal.Splat

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution of the kernel ends; the two result arrays then hold what the last launch's two output windows
    leave, and the argument arrays are as they were. -/
theorem value_run : θ_run defs (onTc (τ := τ) (main (F := F))) ⟨m, fun _ => 0, ρ⟩ (fun r => ∀ c : Dev nD,
      r.2.mem ((c.tc : Thread nD τ).loc main_v21_0) = (dat2 (V4 m ρ) c).arrAt 2 cfg2.N
      ∧ r.2.mem ((c.tc : Thread nD τ).loc main_v21_1) = (dat2 (V4 m ρ) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨(h c _ (mem_uc main_v21_0 (by decide))).trans (W5_arr m ρ c 2),
       (h c _ (mem_uc main_v21_1 (by decide))).trans (W5_arr m ρ c 3),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.KernelIdeal.Splat

end
-- ==== Proof.Cells.lean ====
/- One sample position on one axis: the two cells beside it, clamped into the image, and the fraction between them. -/
module

public import Idealize.ShloMosaic.Lib.IdealHost

@[expose] public section

noncomputable section

namespace Cert.Splat

open Idealize.ShloMosaic

/-- A natural number below 2³¹, read signed off its word. -/
theorem word_real (n : ℕ) (h : n < 2 ^ 31) : (BitVec.ofNat 32 n).toInt = n := by
  rw [BitVec.toInt_eq_toNat_of_lt (by rw [BitVec.toNat_ofNat, Nat.mod_eq_of_lt (by omega)]; omega), BitVec.toNat_ofNat, Nat.mod_eq_of_lt (by omega)]

/-- An integer of 32 signed bits, clamped from below by zero and from above by `N`, as the word the clamps leave. -/
theorem clamp_word (N : ℕ) (hN : N < 2 ^ 31) (z : ℤ) (lo : -2 ^ 31 ≤ z) (hi : z < 2 ^ 31) :
    IntOp.minsi (BitVec.ofNat 32 N) (IntOp.maxsi 0#32 (BitVec.ofInt 32 z)) = BitVec.ofNat 32 (min N z.toNat) := by
  have hz : (BitVec.ofInt 32 z).toInt = z := by
    rw [BitVec.toInt_ofInt]
    exact Int.bmod_eq_of_le (by omega) (by omega)
  have hn := word_real
  have hm : IntOp.maxsi 0#32 (BitVec.ofInt 32 z) = BitVec.ofNat 32 z.toNat := by
    unfold IntOp.maxsi
    rw [BitVec.slt_eq_decide, hz]
    apply BitVec.eq_of_toInt_eq
    have hq := hn z.toNat (by omega)
    rw [hq]
    by_cases h : z < 0
    · rw [if_pos (by simpa using h)]
      rw [show (0#32 : BitVec 32).toInt = 0 from rfl]; omega
    · rw [if_neg (by simpa using h), hz]
      omega
  rw [hm]
  unfold IntOp.minsi
  rw [BitVec.slt_eq_decide, hn _ hN, hn _ (by omega)]
  by_cases h : (N : ℤ) < (z.toNat : ℤ)
  · rw [if_pos (by simpa using h), Nat.min_eq_left (by omega)]
  · rw [if_neg (by simpa using h), Nat.min_eq_right (by omega)]

/-- The word of the cell below position `t`, clamped to `0 … N`. -/
def cellLo (N : ℕ) (t : EReal) : BitVec 32 :=
  IntOp.minsi (BitVec.ofNat 32 N) (IntOp.maxsi 0#32 (Ideal.fptosi 32 (Ideal.liftRound Int.floor t)))

/-- The word of the cell above position `t`, clamped to `0 … N`. -/
def cellHi (N : ℕ) (t : EReal) : BitVec 32 :=
  IntOp.minsi (BitVec.ofNat 32 N) (IntOp.maxsi 0#32 (Ideal.fptosi 32 (Ideal.liftRound Int.ceil t)))

/-- The distance of position `t`, clamped to `0 … N`, from its lower cell. -/
def cellFrac (N : ℕ) (t : EReal) : EReal :=
  min ((N : ℝ) : EReal) (max 0 t) - (((cellLo N t).toInt : ℝ) : EReal)

/-- A whole number held as an extended real converts to the word of that number, cut to 32 signed bits. -/
theorem fptosi_int (z : ℤ) : Ideal.fptosi 32 (((z : ℝ)) : EReal) = BitVec.ofInt 32 (max (-2 ^ 31) (min (2 ^ 31 - 1) z)) := by
  unfold Ideal.fptosi
  rw [Ideal.toIntClamped_coe]
  simp

/-- At every position, the infinities included: both cells lie in `0 … N`, the distance from the lower one is a real number,
    and the upper cell is the next one or else the same one at distance zero. -/
theorem cell (N : ℕ) (hN : N < 2 ^ 30) (t : EReal) : ∃ (f c : ℕ) (α : ℝ), cellLo N t = BitVec.ofNat 32 f ∧ cellHi N t = BitVec.ofNat 32 c
    ∧ f ≤ N ∧ c ≤ N ∧ cellFrac N t = (α : EReal) ∧ (c = f + 1 ∨ (α = 0 ∧ c = f)) := by
  have key : ∀ (zf zc : ℤ) (u : ℝ), -2 ^ 31 ≤ zf → zf < 2 ^ 31 → -2 ^ 31 ≤ zc → zc < 2 ^ 31 →
      Ideal.fptosi 32 (Ideal.liftRound Int.floor t) = BitVec.ofInt 32 zf → Ideal.fptosi 32 (Ideal.liftRound Int.ceil t) = BitVec.ofInt 32 zc →
      min ((N : ℝ) : EReal) (max 0 t) = (u : EReal) →
      (min N zc.toNat = min N zf.toNat + 1 ∨ (u - (min N zf.toNat : ℕ) = 0 ∧ min N zc.toNat = min N zf.toNat)) →
      ∃ (f c : ℕ) (α : ℝ), cellLo N t = BitVec.ofNat 32 f ∧ cellHi N t = BitVec.ofNat 32 c
        ∧ f ≤ N ∧ c ≤ N ∧ cellFrac N t = (α : EReal) ∧ (c = f + 1 ∨ (α = 0 ∧ c = f)) := by
    intro zf zc u h1 h2 h3 h4 e1 e2 e3 e4
    have hlo : cellLo N t = BitVec.ofNat 32 (min N zf.toNat) := by
      unfold cellLo; rw [e1, clamp_word N (by omega) zf h1 h2]
    have hhi : cellHi N t = BitVec.ofNat 32 (min N zc.toNat) := by
      unfold cellHi; rw [e2, clamp_word N (by omega) zc h3 h4]
    refine ⟨_, _, u - (min N zf.toNat : ℕ), hlo, hhi, min_le_left _ _, min_le_left _ _, ?_, e4⟩
    unfold cellFrac
    rw [hlo, e3, word_real _ (by omega), Int.cast_natCast, ← EReal.coe_sub]
  have hN0 : (0 : EReal) ≤ ((N : ℝ) : EReal) := by exact_mod_cast Nat.zero_le N
  induction t with
  | bot =>
    refine key (-2 ^ 31) (-2 ^ 31) 0 (by norm_num) (by norm_num) (by norm_num) (by norm_num) ?_ ?_ ?_ (Or.inr ⟨by simp, rfl⟩)
    · exact congrArg (BitVec.ofInt 32) (Ideal.toIntClamped_bot _ _)
    · exact congrArg (BitVec.ofInt 32) (Ideal.toIntClamped_bot _ _)
    · rw [max_eq_left bot_le, min_eq_right hN0]; rfl
  | top =>
    refine key (2 ^ 31 - 1) (2 ^ 31 - 1) N (by norm_num) (by norm_num) (by norm_num) (by norm_num) ?_ ?_ ?_ (Or.inr ⟨?_, rfl⟩)
    · exact congrArg (BitVec.ofInt 32) (Ideal.toIntClamped_top _ _)
    · exact congrArg (BitVec.ofInt 32) (Ideal.toIntClamped_top _ _)
    · rw [max_eq_right le_top, min_eq_left le_top]
    · rw [Nat.min_eq_left (by norm_num; omega), sub_self]
  | coe r =>
    have hfl : Ideal.fptosi 32 (Ideal.liftRound Int.floor (r : EReal)) = BitVec.ofInt 32 (max (-2 ^ 31) (min (2 ^ 31 - 1) ⌊r⌋)) := fptosi_int _
    have hce : Ideal.fptosi 32 (Ideal.liftRound Int.ceil (r : EReal)) = BitVec.ofInt 32 (max (-2 ^ 31) (min (2 ^ 31 - 1) ⌈r⌉)) := fptosi_int _
    have hmm : min ((N : ℝ) : EReal) (max 0 (r : EReal)) = ((min (N : ℝ) (max 0 r) : ℝ) : EReal) := by
      norm_cast
    refine key _ _ _ (by omega) (by omega) (by omega) (by omega) hfl hce hmm ?_
    have b1 := Int.floor_le r
    have b2 := Int.lt_floor_add_one r
    have b3 := Int.le_ceil r
    have b4 := Int.ceil_lt_add_one r
    rcases le_or_gt r 0 with h0 | h0
    · have c1 : ⌈r⌉ ≤ 0 := Int.ceil_le.2 (by simpa using h0)
      have c2 : ⌊r⌋ ≤ 0 := (Int.floor_le_ceil r).trans c1
      right
      have d1 : (max (-2 ^ 31) (min (2 ^ 31 - 1) ⌊r⌋)).toNat = 0 := by omega
      have d2 : (max (-2 ^ 31) (min (2 ^ 31 - 1) ⌈r⌉)).toNat = 0 := by omega
      rw [d1, d2, max_eq_left h0]
      simp
    · rcases le_or_gt (N : ℝ) r with h1 | h1
      · have c2 : (N : ℤ) ≤ ⌊r⌋ := Int.le_floor.2 (by exact_mod_cast h1)
        have c1 : (N : ℤ) ≤ ⌈r⌉ := c2.trans (Int.floor_le_ceil r)
        right
        rw [Nat.min_eq_left (by omega), Nat.min_eq_left (by omega), max_eq_right h0.le, min_eq_left h1]
        simp
      · have c0 : 0 ≤ ⌊r⌋ := Int.floor_nonneg.2 h0.le
        have c1 : ⌈r⌉ ≤ N := Int.ceil_le.2 (by exact_mod_cast h1.le)
        have c2 : ⌊r⌋ < N := Int.floor_lt.2 (by exact_mod_cast h1)
        have c3 : 0 ≤ ⌈r⌉ := c0.trans (Int.floor_le_ceil r)
        have e1 : (max (-2 ^ 31) (min (2 ^ 31 - 1) ⌊r⌋)) = ⌊r⌋ := by omega
        have e2 : (max (-2 ^ 31) (min (2 ^ 31 - 1) ⌈r⌉)) = ⌈r⌉ := by omega
        rw [e1, e2, Nat.min_eq_right (by omega), Nat.min_eq_right (by omega), max_eq_right h0.le, min_eq_right h1.le]
        by_cases hr : r = ⌊r⌋
        · right
          have hc : ⌈r⌉ = ⌊r⌋ := by rw [hr, Int.ceil_intCast, Int.floor_intCast]
          refine ⟨?_, by rw [hc]⟩
          have : ((⌊r⌋.toNat : ℕ) : ℝ) = ((⌊r⌋ : ℤ) : ℝ) := by
            have := Int.toNat_of_nonneg c0
            exact_mod_cast congrArg (Int.cast (R := ℝ)) this
          rw [this, ← hr, sub_self]
        · left
          have hlt : (⌊r⌋ : ℝ) < r := lt_of_le_of_ne b1 (Ne.symm hr)
          have : ⌈r⌉ = ⌊r⌋ + 1 := by
            apply le_antisymm
            · exact Int.ceil_le.2 (by push_cast; exact b2.le)
            · exact Int.add_one_le_iff.2 (Int.lt_ceil.2 hlt)
          omega

end Cert.Splat
-- ==== Proof.Spec.lean ====
/- One source pixel of the splat, as plain functions of extended reals: where it lands, its weights, the words its targets have. -/
module

public import proofs.«01_k».proof.Proof.Cells
public import Idealize.ShloMosaic.Lib.Pointwise

@[expose] public section

noncomputable section

namespace Cert.Splat

open Idealize.ShloMosaic

theorem bits_1921 : Ideal.ofBits .f32 0x44F02000#32 = (((1921 : ℕ) : ℝ) : EReal) := by
  simp [Ideal.ofBits, Ideal.ieee, -EReal.coe_mul]; norm_num
theorem bits_1081 : Ideal.ofBits .f32 0x44872000#32 = (((1081 : ℕ) : ℝ) : EReal) := by
  simp [Ideal.ofBits, Ideal.ieee, -EReal.coe_mul]; norm_num
theorem bits_1000 : Ideal.ofBits .f32 0x447A0000#32 = ((1000 : ℝ) : EReal) := by
  simp [Ideal.ofBits, Ideal.ieee, -EReal.coe_mul]; norm_num
theorem bits_50 : Ideal.ofBits .f32 0x42480000#32 = ((50 : ℝ) : EReal) := by
  simp [Ideal.ofBits, Ideal.ieee, -EReal.coe_mul]; norm_num
theorem bits_neg_inf : Ideal.ofBits .f32 0xFF800000#32 = ⊥ := by
  simp [Ideal.ofBits, Ideal.ieee]

/-- A natural number below 2³¹ as a float, from its word. -/
theorem sitofp_nat (n : ℕ) (h : n < 2 ^ 31) : FloatOps.sitofp (F := Ideal) .f32 (BitVec.ofNat 32 n) = ((n : ℝ) : EReal) := by
  rw [show FloatOps.sitofp (F := Ideal) .f32 (BitVec.ofNat 32 n) = (((BitVec.ofNat 32 n).toInt : ℝ) : EReal) from rfl, word_real n h, Int.cast_natCast]

/-- The logarithm of one plus a depth clamped to `0 … 1000`. -/
def logDepth (d : EReal) : EReal := Ideal.log1p (min ((1000 : ℝ) : EReal) (max 0 d))

/-- The weight of a depth by the kernel's formula, from the scale `s`. -/
def depthWeight (s d : EReal) : EReal := Ideal.exp (logDepth d * (0 - s))

/-- The kernel's four weights of a pixel at position `(tx, ty)`: upper left, upper right, lower left, lower right. -/
def weights (s d tx ty : EReal) : Fin 4 → EReal
  | 0 => (1 - cellFrac 1081 ty) * depthWeight s d * (1 - cellFrac 1921 tx)
  | 1 => (1 - cellFrac 1081 ty) * depthWeight s d * cellFrac 1921 tx
  | 2 => cellFrac 1081 ty * depthWeight s d * (1 - cellFrac 1921 tx)
  | 3 => cellFrac 1081 ty * depthWeight s d * cellFrac 1921 tx

/-- The upper left target of a pixel of image `b`, as the kernel's word. -/
def topWord (b : ℕ) (tx ty : EReal) : BitVec 32 :=
  (BitVec.ofNat 32 b * 1096#32 + cellLo 1081 ty + 7#32) * 1922#32 + cellLo 1921 tx

/-- The lower left target. -/
def lowWord (b : ℕ) (tx ty : EReal) : BitVec 32 :=
  topWord b tx ty + (cellHi 1081 ty - cellLo 1081 ty) * 1922#32

/-- The kernel's four target words of a pixel, in the weights' order. -/
def words (b : ℕ) (tx ty : EReal) : Fin 4 → BitVec 32
  | 0 => topWord b tx ty
  | 1 => topWord b tx ty + 1#32
  | 2 => lowWord b tx ty
  | 3 => lowWord b tx ty + 1#32

/-- The horizontal position of pixel `(y, x)` of image `b`: flow, plus the column, plus one. -/
def posX (fl : FVec Ideal ⟨4, ![2, 2, 1080, 1920]⟩ .f32) (b : Fin 2) (y : Fin 1080) (x : Fin 1920) : EReal :=
  fl (ix4 b 0 y x) + ((x.val : ℝ) : EReal) + 1

/-- Its vertical position: flow, plus the row, plus one. -/
def posY (fl : FVec Ideal ⟨4, ![2, 2, 1080, 1920]⟩ .f32) (b : Fin 2) (y : Fin 1080) (x : Fin 1920) : EReal :=
  fl (ix4 b 1 y x) + ((y.val : ℝ) : EReal) + 1

/-- A row counted inside its block of eight, the block's first row added with the one. -/
theorem pos_split (a : EReal) (r n y : ℕ) (h : y = n + r) : a + ((r : ℝ) : EReal) + (((n : ℝ) : EReal) + 1) = a + ((y : ℝ) : EReal) + 1 := by
  subst h
  rw [← add_assoc, add_assoc a, ← EReal.coe_add, add_comm (r : ℝ), ← Nat.cast_add]

/-- What is added at a target: the weight times a colour on the first three channels, the weight itself on the fourth. -/
def share (w : EReal) (f : Fin 3 → EReal) (ch : Fin 4) : EReal := if h : ch.val < 3 then w * f ⟨ch.val, h⟩ else w

/-- The mask: one where the accumulated weight is positive, zero elsewhere. -/
def covered (wsum : EReal) : EReal := if 0 < wsum then 1 else 0

theorem mask_signed (w : EReal) : FloatOps.sitofp (F := Ideal) .f32 (BitVec.setWidth 32 (BitVec.ofBool (decide (0 < w)))) = covered w := by
  unfold covered
  by_cases h : 0 < w
  · rw [decide_eq_true h, if_pos h]
    exact (sitofp_nat 1 (by norm_num)).trans (by norm_num)
  · rw [decide_eq_false h, if_neg h]
    exact (sitofp_nat 0 (by norm_num)).trans (by norm_num)

theorem mask_unsigned (w : EReal) : FloatOps.uitofp (F := Ideal) .f32 (BitVec.ofBool (decide (0 < w))) = covered w := by
  unfold covered
  rw [show ∀ b : BitVec 1, FloatOps.uitofp (F := Ideal) .f32 b = ((b.toNat : ℝ) : EReal) from fun _ => rfl]
  by_cases h : 0 < w
  · rw [decide_eq_true h, if_pos h]
    simp
  · rw [decide_eq_false h, if_neg h]
    simp

theorem bits_neg_one : Ideal.ofBits .f32 0xBF800000#32 = ((-1 : ℝ) : EReal) := by
  simp [Ideal.ofBits, Ideal.ieee, -EReal.coe_mul, -EReal.coe_neg]; norm_num

/-- The composed image: where covered, the accumulated colour over the accumulated weight, clamped to `-1 … 1`; elsewhere the second frame. -/
def filled (wsum rgb other : EReal) : EReal :=
  covered wsum * min 1 (max (((-1 : ℝ)) : EReal) (if 0 < wsum then Ideal.div rgb wsum else ((-1 : ℝ) : EReal))) + (1 - covered wsum) * other

end Cert.Splat
-- ==== Proof.Maximum.lean ====
/- A maximum over a whole array, by its upper bounds. -/
module

public import Idealize.ShloMosaic.Lib.IdealHost
public import Idealize.ShloMosaic.Lib.Pointwise

@[expose] public section

noncomputable section

namespace Cert.Splat

open Idealize.ShloMosaic

theorem foldl_max_le {ι : Type} (f : ι → EReal) (l : List ι) (a c : EReal) :
    l.foldl (fun r n => max r (f n)) a ≤ c ↔ a ≤ c ∧ ∀ n ∈ l, f n ≤ c := by
  induction l generalizing a with
  | nil => simp
  | cons x l ih => simp [ih, and_assoc]

/-- A reduction by maximum over every axis lies below `c` when its initial value and every element do. -/
theorem reduce_max_le {s t u : Shape} {axes : List (Fin s.rank)} (v : FVec Ideal s .f32) (init : FVec Ideal u .f32) (h : s.ReducesTo axes t) (hu : 0 < u.numel)
    (j : t.Idx) (hj : ∀ i, h.drop i = j) (c : EReal) :
    Host.reduce FloatOps.maximumf v init h hu j ≤ c ↔ init (Shape.Idx.first hu) ≤ c ∧ ∀ i, v i ≤ c := by
  refine (foldl_max_le (fun n => v (s.rowMajor.symm n)) _ _ c).trans (and_congr_right fun _ => ?_)
  constructor
  · intro hl i
    have := hl (s.rowMajor i) (List.mem_filter.mpr ⟨List.mem_finRange _, by simp [hj]⟩)
    simpa using this
  · intro hv n _
    exact hv _

end Cert.Splat
-- ==== Proof.Depth.lean ====
/- What the precondition says: some depth is positive. -/
module

public import proofs.«01_k».proof.Proof.Spec
public import proofs.«01_k».proof.Proof.Maximum
public import proofs.«01_k».proof.Pre_some_depth_positive

@[expose] public section

set_option maxRecDepth 16384

noncomputable section

namespace Cert.Splat

open Idealize.ShloMosaic Idealize.ShloMosaic.Tactic

/-- The shape relations the precondition's operations take. -/
theorem pre_facts : Cert.Pre_some_depth_positive.Facts := ⟨by decide, by decide⟩

/-- The largest depth. -/
def topDepth [Cert.Pre_some_depth_positive.Facts] (d : FVec Ideal ⟨4, ![2, 1, 1080, 1920]⟩ .f32) : FVec Ideal ⟨0, ![]⟩ .f32 :=
  Host.reduce FloatOps.maximumf d (constant (F := Ideal) ⟨0, ![]⟩ .f32 0xFF800000#32) Cert.Pre_some_depth_positive.Facts.reducesTo_S2x1x1080x1920_S_d0_1_2_3
    Cert.Pre_some_depth_positive.Facts.h_S_

/-- Whether a number is positive. -/
def isPositive (r : FVec Ideal ⟨0, ![]⟩ .f32) : IVec ⟨0, ![]⟩ 1 := cmpf .ogt r (constant (F := Ideal) ⟨0, ![]⟩ .f32 0x00000000#32)

theorem isPositive_at (r : FVec Ideal ⟨0, ![]⟩ .f32) : isPositive r ix0 = BitVec.ofBool (decide ((0 : EReal) < r ix0)) := by
  pointwise [isPositive]

/-- The precondition asks whether the largest depth is positive. -/
theorem pre_eq [Cert.Pre_some_depth_positive.Facts] (a0 : FVec Ideal ⟨4, ![2, 3, 1080, 1920]⟩ .f32) (a1 : FVec Ideal ⟨5, ![1, 2, 3, 1080, 1920]⟩ .f32)
    (a2 : FVec Ideal ⟨4, ![2, 1, 1080, 1920]⟩ .f32) (a3 : FVec Ideal ⟨4, ![2, 2, 1080, 1920]⟩ .f32) :
    Cert.Pre_some_depth_positive.fn (F := Ideal) a0 a1 a2 a3 = isPositive (topDepth a2) := rfl

/-- An upper bound of all depths bounds the largest. -/
theorem topDepth_le [Cert.Pre_some_depth_positive.Facts] (d : FVec Ideal ⟨4, ![2, 1, 1080, 1920]⟩ .f32) (c : EReal)
    (h : ∀ (b : Fin 2) (y : Fin 1080) (x : Fin 1920), d (ix4 b 0 y x) ≤ c) : topDepth d ix0 ≤ c := by
  unfold topDepth
  refine (reduce_max_le d _ _ _ _ (by intro i; funext a; exact a.elim0) c).mpr ⟨(bits_neg_inf.trans_le bot_le : _), fun i => ?_⟩
  change (⟨4, ![2, 1, 1080, 1920]⟩ : Shape).Idx at i
  idx_vars i
  obtain rfl : i1 = 0 := Subsingleton.elim _ _
  exact h _ _ _

/-- If the precondition's comparison comes out true, some depth is positive. -/
theorem depth_positive [Cert.Pre_some_depth_positive.Facts] (a0 : FVec Ideal ⟨4, ![2, 3, 1080, 1920]⟩ .f32) (a1 : FVec Ideal ⟨5, ![1, 2, 3, 1080, 1920]⟩ .f32)
    (a2 : FVec Ideal ⟨4, ![2, 1, 1080, 1920]⟩ .f32) (a3 : FVec Ideal ⟨4, ![2, 2, 1080, 1920]⟩ .f32)
    (h : Cert.Pre_some_depth_positive.fn (F := Ideal) a0 a1 a2 a3 = fun _ => 1#1) :
    ∃ (b : Fin 2) (y : Fin 1080) (x : Fin 1920), 0 < a2 (ix4 b 0 y x) := by
  by_contra hn
  have le := topDepth_le a2 0 fun b y x => not_lt.mp fun hp => hn ⟨b, y, x, hp⟩
  have h1 := congrFun ((pre_eq a0 a1 a2 a3).symm.trans h) ix0
  rw [isPositive_at, decide_eq_false (not_lt.mpr le)] at h1
  exact absurd h1 (by decide)

end Cert.Splat
-- ==== Proof.Pixel.lean ====
/- One pixel's part in the two sums: the kernel's words and weights against the reference's. -/
module

public import proofs.«01_k».proof.Proof.Spec

@[expose] public section

noncomputable section

namespace Cert.Splat

open Idealize.ShloMosaic

/-- The image of pixel `n`, the pixels counted image by image, row by row. -/
def pixImage (n : Fin 4147200) : Fin 2 := ⟨n.val / 2073600, by omega⟩
/-- Its row. -/
def pixRow (n : Fin 4147200) : Fin 1080 := ⟨n.val / 1920 % 1080, by omega⟩
/-- Its column. -/
def pixCol (n : Fin 4147200) : Fin 1920 := ⟨n.val % 1920, by omega⟩

/-- The weight of a depth by the reference's formula, from the largest logarithmic depth `M`: the divisor. -/
def refDepth (M d : EReal) : EReal := Ideal.exp (Ideal.div (logDepth d) M * ((50 : ℝ) : EReal))

/-- The reference's four weights of a pixel, in the kernel's order. -/
def refWeights (M d tx ty : EReal) : Fin 4 → EReal
  | 0 => Ideal.div ((1 - cellFrac 1081 ty) * (1 - cellFrac 1921 tx)) (refDepth M d)
  | 1 => Ideal.div ((1 - cellFrac 1081 ty) * cellFrac 1921 tx) (refDepth M d)
  | 2 => Ideal.div (cellFrac 1081 ty * (1 - cellFrac 1921 tx)) (refDepth M d)
  | 3 => Ideal.div (cellFrac 1081 ty * cellFrac 1921 tx) (refDepth M d)

/-- The reference's word of canvas row `u`, column `v`, image `b`. -/
def refWord (b : ℕ) (u v : BitVec 32) : BitVec 32 := (BitVec.ofNat 32 b * 1082#32 + u) * 1922#32 + v

/-- The reference's four target words of a pixel, in the kernel's order. -/
def refWords (b : ℕ) (tx ty : EReal) : Fin 4 → BitVec 32
  | 0 => refWord b (cellLo 1081 ty) (cellLo 1921 tx)
  | 1 => refWord b (cellLo 1081 ty) (cellHi 1921 tx)
  | 2 => refWord b (cellHi 1081 ty) (cellLo 1921 tx)
  | 3 => refWord b (cellHi 1081 ty) (cellHi 1921 tx)

/-- A logarithmic depth is a real number between zero and `log 1001`, positive for a positive depth. -/
theorem logDepth_real (d : EReal) : ∃ l : ℝ, logDepth d = (l : EReal) ∧ 0 ≤ l ∧ l ≤ Real.log 1001 ∧ (0 < d → 0 < l) := by
  obtain ⟨r, hr, h0, h1, hp⟩ : ∃ r : ℝ, min ((1000 : ℝ) : EReal) (max 0 d) = (r : EReal) ∧ 0 ≤ r ∧ r ≤ 1000 ∧ (0 < d → 0 < r) := by
    induction d using EReal.rec with
    | bot => exact ⟨0, by simp, le_rfl, by norm_num, fun h => absurd h (by simp)⟩
    | top => exact ⟨1000, by simp, by norm_num, le_rfl, fun _ => by norm_num⟩
    | coe x =>
      refine ⟨min 1000 (max 0 x), ?_, by positivity, min_le_left _ _, fun h => ?_⟩
      · rw [EReal.coe_strictMono.monotone.map_min, EReal.coe_strictMono.monotone.map_max, EReal.coe_zero]
      · have : 0 < x := by exact_mod_cast h
        exact lt_min (by norm_num) (lt_max_of_lt_right this)
  have e : logDepth d = ((Real.log (1 + r) : ℝ) : EReal) := by
    unfold logDepth Ideal.log1p
    rw [hr, ← EReal.coe_one, ← EReal.coe_add, Ideal.log_coe, if_neg (by linarith)]
  refine ⟨_, e, Real.log_nonneg (by linarith), Real.log_le_log (by linarith) (by linarith), fun h => Real.log_pos (by linarith [hp h])⟩

/-- The two formulas for the weights agree, the largest logarithmic depth being a positive real. -/
theorem weights_eq (M : ℝ) (hM : 0 < M) (d tx ty : EReal) (k : Fin 4) :
    weights (Ideal.div ((50 : ℝ) : EReal) (M : EReal)) d tx ty k = refWeights (M : EReal) d tx ty k := by
  obtain ⟨l, hl, -⟩ := logDepth_real d
  obtain ⟨_, _, a, _, _, _, _, ha, _⟩ := cell 1921 (by norm_num) tx
  obtain ⟨_, _, b, _, _, _, _, hb, _⟩ := cell 1081 (by norm_num) ty
  have hE : depthWeight (Ideal.div ((50 : ℝ) : EReal) (M : EReal)) d = ((Real.exp (-(l / M * 50)) : ℝ) : EReal) := by
    unfold depthWeight
    rw [hl, Ideal.div_coe hM.ne', ← EReal.coe_zero]
    norm_cast
    rw [Ideal.exp_coe]
    congr 2
    field_simp
    ring
  have hD : refDepth (M : EReal) d = ((Real.exp (l / M * 50) : ℝ) : EReal) := by
    unfold refDepth
    rw [hl, Ideal.div_coe hM.ne']
    norm_cast
    rw [Ideal.exp_coe]
    congr 2
    field_simp
  have hdiv : ∀ p : ℝ, Ideal.div (p : EReal) ((Real.exp (l / M * 50) : ℝ) : EReal) = ((p * Real.exp (-(l / M * 50)) : ℝ) : EReal) := by
    intro p
    rw [Ideal.div_coe (Real.exp_pos _).ne', Real.exp_neg, one_div, EReal.coe_mul]
  have one : (1 : EReal) = ((1 : ℝ) : EReal) := rfl
  fin_cases k <;> simp only [weights, refWeights, hE, hD, ha, hb, one] <;> norm_cast <;> rw [hdiv] <;> congr 1 <;> ring

/-- Where the column above is not the next one, the weight to its side is zero. -/
theorem weight_zero (s d tx ty : EReal) (h : cellFrac 1921 tx = 0) : weights s d tx ty 1 = 0 ∧ weights s d tx ty 3 = 0 := by
  constructor <;> simp only [weights, h, mul_zero]

theorem share_zero (f : Fin 3 → EReal) (ch : Fin 4) : share 0 f ch = 0 := by
  unfold share
  split
  · exact zero_mul _
  · rfl

/-- The kernel's word and the reference's as numbers, from the cells. -/
theorem kernel_number (b gy gx : ℕ) : (BitVec.ofNat 32 b * 1096#32 + BitVec.ofNat 32 gy + 7#32) * 1922#32 + BitVec.ofNat 32 gx
    = BitVec.ofNat 32 ((b * 1096 + gy + 7) * 1922 + gx) := by
  simp only [BitVec.ofNat_add, BitVec.ofNat_mul]

theorem ref_number (b gy gx : ℕ) : refWord b (BitVec.ofNat 32 gy) (BitVec.ofNat 32 gx) = BitVec.ofNat 32 ((b * 1082 + gy) * 1922 + gx) := by
  simp only [refWord, BitVec.ofNat_add, BitVec.ofNat_mul]

theorem low_number (b tx ty) (f c : ℕ) (g : ℕ) (hf : cellLo 1081 ty = BitVec.ofNat 32 f) (hc : cellHi 1081 ty = BitVec.ofNat 32 c) (h : c = f + 1 ∨ c = f)
    (hg : cellLo 1921 tx = BitVec.ofNat 32 g) : lowWord b tx ty = BitVec.ofNat 32 ((b * 1096 + c + 7) * 1922 + g) := by
  unfold lowWord topWord
  rw [hf, hc, hg, kernel_number]
  rcases h with rfl | rfl
  · rw [show BitVec.ofNat 32 (f + 1) - BitVec.ofNat 32 f = 1#32 by rw [BitVec.ofNat_add, BitVec.add_comm, BitVec.add_sub_cancel], BitVec.one_mul,
      show (b * 1096 + (f + 1) + 7) * 1922 + g = (b * 1096 + f + 7) * 1922 + g + 1922 by ring]
    exact (BitVec.ofNat_add _ _).symm
  · rw [BitVec.sub_self, BitVec.zero_mul, BitVec.add_zero]

/-- A pixel's words, as numbers: row and column of the target `k` in the kernel's taller canvas and in the reference's. -/
theorem words_numbers (b : ℕ) (hb : b < 2) (tx ty : EReal) (k : Fin 4) : ∃ gy gx gx' : ℕ,
    words b tx ty k = BitVec.ofNat 32 ((b * 1096 + gy + 7) * 1922 + gx) ∧ refWords b tx ty k = BitVec.ofNat 32 ((b * 1082 + gy) * 1922 + gx')
    ∧ gy ≤ 1081 ∧ gx' ≤ 1921 ∧ gx ≤ 1922 ∧ (gx = gx' ∨ ∀ s d, weights s d tx ty k = 0) := by
  obtain ⟨fx, cx, a, hfx, hcx, bfx, bcx, ha, hx⟩ := cell 1921 (by norm_num) tx
  obtain ⟨fy, cy, _, hfy, hcy, bfy, bcy, _, hy⟩ := cell 1081 (by norm_num) ty
  have hy' : cy = fy + 1 ∨ cy = fy := Or.imp_right And.right hy
  have htop : topWord b tx ty = BitVec.ofNat 32 ((b * 1096 + fy + 7) * 1922 + fx) := by
    unfold topWord
    rw [hfy, hfx, kernel_number]
  have hlow := low_number b tx ty fy cy fx hfy hcy hy' hfx
  have hside : ∀ k : Fin 4, (k = 1 ∨ k = 3) → (fx + 1 = cx ∨ ∀ s d, weights s d tx ty k = 0) := by
    intro k hk
    rcases hx with h | ⟨h, -⟩
    · exact Or.inl h.symm
    · subst h
      rcases hk with rfl | rfl
      · exact Or.inr fun s d => (weight_zero s d tx ty ha).1
      · exact Or.inr fun s d => (weight_zero s d tx ty ha).2
  match k with
  | 0 => exact ⟨fy, fx, fx, htop, by simp only [refWords, hfy, hfx, ref_number], bfy, bfx, by omega, Or.inl rfl⟩
  | 1 =>
    refine ⟨fy, fx + 1, cx, ?_, by simp only [refWords, hfy, hcx, ref_number], bfy, bcx, by omega, hside 1 (Or.inl rfl)⟩
    rw [← Nat.add_assoc, BitVec.ofNat_add]
    exact congrArg (· + 1#32) htop
  | 2 => exact ⟨cy, fx, fx, hlow, by simp only [refWords, hcy, hfx, ref_number], bcy, bfx, by omega, Or.inl rfl⟩
  | 3 =>
    refine ⟨cy, fx + 1, cx, ?_, by simp only [refWords, hcy, hcx, ref_number], bcy, bcx, by omega, hside 3 (Or.inr rfl)⟩
    rw [← Nat.add_assoc, BitVec.ofNat_add]
    exact congrArg (· + 1#32) hlow

theorem small_word (n : ℕ) (h : n < 2 ^ 31) : (BitVec.ofNat 32 n).toNat < 2 ^ 31 := by
  rw [BitVec.toNat_ofNat]
  exact (Nat.mod_le _ _).trans_lt h

theorem words_small (b : ℕ) (hb : b < 2) (tx ty : EReal) (k : Fin 4) : (words b tx ty k).toNat < 2 ^ 31 ∧ (refWords b tx ty k).toNat < 2 ^ 31 := by
  obtain ⟨gy, gx, gx', h, h', b1, b2, b3, -⟩ := words_numbers b hb tx ty k
  rw [h, h']
  exact ⟨small_word _ (by omega), small_word _ (by omega)⟩

/-- A pixel's part in the sum at image `b'`, row `Y`, column `X`: the kernel's is the reference's. -/
theorem part_eq (M : ℝ) (hM : 0 < M) (b b' : Fin 2) (Y : Fin 1080) (X : Fin 1920) (d tx ty : EReal) (f : Fin 3 → EReal) (ch k : Fin 4) :
    (if (words b.val tx ty k).toInt = (((b'.val * 1096 + (8 + Y.val)) * 1922 + (1 + X.val) : ℕ) : ℤ)
        then share (weights (Ideal.div ((50 : ℝ) : EReal) (M : EReal)) d tx ty k) f ch else 0)
      = if (refWords b.val tx ty k).toInt = (((b'.val * 1082 + (1 + Y.val)) * 1922 + (1 + X.val) : ℕ) : ℤ)
        then share (refWeights (M : EReal) d tx ty k) f ch else 0 := by
  obtain ⟨gy, gx, gx', h, h', b1, b2, b3, hor⟩ := words_numbers b.val b.isLt tx ty k
  have := b.isLt
  have := b'.isLt
  have := Y.isLt
  have := X.isLt
  rw [← weights_eq M hM]
  rcases hor with rfl | h0
  · rw [h, h', word_real _ (by omega), word_real _ (by omega)]
    refine if_congr ?_ rfl rfl
    rw [Nat.cast_inj, Nat.cast_inj]
    constructor <;> intro _ <;> omega
  · rw [h0, share_zero, ite_self, ite_self]

end Cert.Splat
-- ==== Proof.Total.lean ====
/- What is accumulated at a place of the image, by the plain formula: the sum over all pixels and their four target words. -/
module

public import proofs.«01_k».proof.Proof.Pixel

@[expose] public section

noncomputable section

namespace Cert.Splat

open Idealize.ShloMosaic Idealize.ShloMosaic.Tactic

/-- Channel `ch` accumulated at row `y`, column `x` of image `b`: every pixel gives its share, by depth `d` and flow `fl`, to the four
    places around its target; the weight is the fourth channel. `M` is the largest logarithmic depth. -/
def total (M : EReal) (fr : FVec Ideal ⟨4, ![2, 3, 1080, 1920]⟩ .f32) (d : FVec Ideal ⟨4, ![2, 1, 1080, 1920]⟩ .f32) (fl : FVec Ideal ⟨4, ![2, 2, 1080, 1920]⟩ .f32)
    (b : Fin 2) (y : Fin 1080) (x : Fin 1920) (ch : Fin 4) : EReal :=
  ∑ n : Fin 4147200, ∑ k : Fin 4,
    if (refWords (pixImage n).val (posX fl (pixImage n) (pixRow n) (pixCol n)) (posY fl (pixImage n) (pixRow n) (pixCol n)) k).toInt
        = (((b.val * 1082 + (1 + y.val)) * 1922 + (1 + x.val) : ℕ) : ℤ)
    then share (refWeights M (d (ix4 (pixImage n) 0 (pixRow n) (pixCol n))) (posX fl (pixImage n) (pixRow n) (pixCol n))
        (posY fl (pixImage n) (pixRow n) (pixCol n)) k) (fun c => fr (ix4 (pixImage n) c (pixRow n) (pixCol n))) ch
    else 0

/-- If some depth is positive, the largest logarithmic depth is a positive real number. -/
theorem top_exists (d : FVec Ideal ⟨4, ![2, 1, 1080, 1920]⟩ .f32) (h : ∃ (b : Fin 2) (y : Fin 1080) (x : Fin 1920), 0 < d (ix4 b 0 y x)) :
    ∃ M : ℝ, 0 < M ∧ ∀ c : EReal, (M : EReal) ≤ c ↔ ∀ (b : Fin 2) (y : Fin 1080) (x : Fin 1920), logDepth (d (ix4 b 0 y x)) ≤ c := by
  choose l hl _ _ hp using fun p : Fin 2 × Fin 1080 × Fin 1920 => logDepth_real (d (ix4 p.1 0 p.2.1 p.2.2))
  obtain ⟨b, y, x, hd⟩ := h
  refine ⟨Finset.univ.sup' ⟨(b, y, x), Finset.mem_univ _⟩ l, ?_, fun c => ?_⟩
  · exact (hp (b, y, x) hd).trans_le (Finset.le_sup' l (Finset.mem_univ _))
  · constructor
    · intro h b y x
      rw [hl (b, y, x)]
      exact (EReal.coe_le_coe_iff.mpr (Finset.le_sup' l (Finset.mem_univ _))).trans h
    · intro h
      obtain ⟨p, -, hp⟩ := Finset.exists_mem_eq_sup' ⟨(b, y, x), Finset.mem_univ _⟩ l
      rw [hp, ← hl]
      exact h _ _ _

end Cert.Splat
-- ==== Proof.ComposeBlock.lean ====
/- What one block of the kernel's last launch and one block of its first launch compute, read at an entry. -/
module

public import proofs.«01_k».proof.Proof.Spec
public import proofs.«01_k».proof.Proof.Gen.KernelIdeal.Frame

@[expose] public section

set_option maxRecDepth 16384

noncomputable section

namespace Cert.KernelIdeal.Splat

open Idealize.ShloMosaic Idealize.ShloMosaic.Tactic
open Cert.KernelIdeal Cert.KernelIdeal.Gen Cert.Splat

/-- The mask block at an entry. -/
theorem compose_mask (v0 : FVec Ideal S1x4x8x1922 .f32) (r : Fin 8) (x : Fin 1920) :
    k2_pay4 (F := Ideal) v0 (ix4 0 0 r x) = covered (v0 (ix4 0 3 r ⟨1 + x.val, by omega⟩)) := by
  pointwise [k2_pay4, k2_pay3, k2_pay2, k2_pay1]
  rw [mask_signed]

/-- The composed block at an entry: the accumulated weight and colours of the same place, one column in. -/
theorem compose_out (v0 : FVec Ideal S1x4x8x1922 .f32) (v25 : FVec Ideal S1x3x8x1920 .f32) (ch : Fin 3) (r : Fin 8) (x : Fin 1920) :
    k2_pay5 (F := Ideal) v0 v25 (ix4 0 ch r x)
      = filled (v0 (ix4 0 3 r ⟨1 + x.val, by omega⟩)) (v0 (ix4 0 ⟨ch.val, by omega⟩ r ⟨1 + x.val, by omega⟩)) (v25 (ix4 0 ch r x)) := by
  pointwise [k2_pay5, k2_pay4, k2_pay3, k2_pay2, k2_pay1]
  rw [mask_signed, bits_neg_one]
  unfold filled
  by_cases h : 0 < v0 (ix4 0 3 r ⟨1 + x.val, by omega⟩)
  · simp only [if_pos h]
  · simp only [if_neg h]

/-- The first launch's block value: the largest logarithm of its eight rows. -/
theorem block_max (v0 : FVec Ideal S1x1x8x1920 .f32) :
    k0_pay1 (F := Ideal) v0 (ix3 0 0 0) = Finset.univ.fold max ⊥ fun p : Fin 8 × Fin 1920 => logDepth (v0 (ix4 0 0 p.1 p.2)) := by
  pointwise [k0_pay1]
  rw [bits_1000, bits_neg_inf]
  rfl

end Cert.KernelIdeal.Splat
-- ==== Proof.LogmaxArray.lean ====
/- The array the kernel's first launch leaves: for every block of depths the largest logarithmic depth. -/
module

public import proofs.«01_k».proof.Proof.ComposeBlock
public import Idealize.ShloMosaic.Lib.Pipeline.ValueKit

@[expose] public section

set_option maxRecDepth 16384

noncomputable section

namespace Cert.KernelIdeal.Splat

open Idealize.ShloMosaic Idealize.ShloMosaic.TcCoe Idealize.ShloMosaic.Tactic Idealize.ShloMosaic.Pipeline
open Cert.KernelIdeal Cert.KernelIdeal.Gen Cert.Splat

variable (V : (c : Dev nD) → (b : Ref sig .tc) → Buf (Elt Ideal) ((c.tc : Thread nD τ).loc b))

/-- The windows' blocks at every grid point. -/
theorem idx0 : ∀ t : Fin cfg0.N, win0_0.index t = ![t.val / 135, 0, t.val % 135, 0] ∧ win0_1.index t = ![t.val, 0, 0] :=
  (by decide +kernel : ∀ t : Fin grid0.N, _)

/-- Block `k` lies in image `k / 135`. -/
def blockImage (k : Fin 270) : Fin 2 := ⟨k.val / 135, by omega⟩
/-- Its row `r` is row `k % 135 * 8 + r` there. -/
def blockRow (k : Fin 270) (r : Fin 8) : Fin 1080 := ⟨k.val % 135 * 8 + r.val, by omega⟩

/-- Entry `k` is the maximum over image `k / 135`, rows `k % 135 * 8` to `k % 135 * 8 + 7`. -/
theorem maxima_array (c : Dev nD) (d : FVec Ideal S2x1x1080x1920 .f32) (h : V c (Pipeline.arrRef spec0 0) = d) :
    (dat0 (F := Ideal) V c).arrAt 1 cfg0.N
      = fun j : S270x1x1.Idx => Finset.univ.fold max ⊥ fun p : Fin 8 × Fin 1920 =>
          logDepth (d (ix4 (blockImage (j 0)) 0 (blockRow (j 0) p.1) p.2)) := by
  refine (dat0 (F := Ideal) V c).arrAt_eq_of_covers 1 _ (by decide +kernel) fun t hf y => ?_
  obtain ⟨e0, e1⟩ := idx0 t
  have ht : t.val < 270 := t.isLt
  blk_simp
  rw [after0_1]
  frame_out
  change S1x1x1.Idx at y
  idx_vars y
  obtain rfl : y0 = 0 := Subsingleton.elim _ _
  obtain rfl : y1 = 0 := Subsingleton.elim _ _
  obtain rfl : y2 = 0 := Subsingleton.elim _ _
  refine (block_max _).trans ?_
  have q : ((View.whole main_v0).slice (win0_1.rect t)).emb (ix3 (0 : Fin 1) (0 : Fin 1) (0 : Fin 1))
      = ix3 (⟨t.val, ht⟩ : Fin 270) (0 : Fin 1) (0 : Fin 1) := by
    blk_ext [e1]
  rw [q]
  have h0 : ∀ p : Fin 8 × Fin 1920, iblk0 (F := Ideal) V c 0 t (ix4 0 0 p.1 p.2)
      = d (ix4 (blockImage ⟨t.val, ht⟩) 0 (blockRow ⟨t.val, ht⟩ p.1) p.2) := by
    rintro ⟨p1, p2⟩
    rw [← h]
    unfold blockImage blockRow
    blk_ext [iblk0, e0]
  simp only [h0]
  rfl

end Cert.KernelIdeal.Splat
-- ==== Proof.Scale.lean ====
/- The scale the kernel's second launch divides by: fifty over the largest logarithmic depth. -/
module

public import proofs.«01_k».proof.Proof.LogmaxArray
public import proofs.«01_k».proof.Proof.Maximum

@[expose] public section

set_option maxRecDepth 16384

noncomputable section

namespace Cert.KernelIdeal.Splat

open Idealize.ShloMosaic Idealize.ShloMosaic.TcCoe Idealize.ShloMosaic.Tactic Idealize.ShloMosaic.Pipeline
open Cert.KernelIdeal Cert.KernelIdeal.Gen Cert.Splat

variable (m : (ℓ : Loc nD τ sig) → Buf (Elt Ideal) ℓ) (ρ : Dev nD → PrngReg)

/-- The scale made of the block maxima. -/
def scaleOf (v : FVec Ideal S270x1x1 .f32) : FVec Ideal S1x1 .f32 :=
  broadcastInDim S1x1 ![] bcast_S_S1x1 (Host.divf (constant S_ .f32 0x42480000#32)
    (Host.reduce FloatOps.maximumf v (constant S_ .f32 0xFF800000#32) reducesTo_S270x1x1_S_d0_1_2 h_S_))

/-- The second launch's first operand is the scale of what the first one leaves. -/
theorem scale_operand (c : Dev nD) : V2 m ρ c main_v3 = scaleOf (W1 m ρ c main_v0) := by
  show StableHlo.after hostOps1 (W1 m ρ c) _ = _
  after_results
  rfl

/-- The scale's one entry, the maximum given by its upper bounds. -/
theorem scale_at (v : FVec Ideal S270x1x1 .f32) (M : EReal) (hM : ∀ b, M ≤ b ↔ ∀ k : Fin 270, v (ix3 k 0 0) ≤ b) :
    scaleOf v (ix2 0 0) = Ideal.div ((50 : ℝ) : EReal) M := by
  have key : Host.reduce FloatOps.maximumf v (constant (F := Ideal) S_ .f32 0xFF800000#32) reducesTo_S270x1x1_S_d0_1_2 h_S_ ix0 = M := by
    refine eq_of_forall_ge_iff fun c => (reduce_max_le v _ _ _ _ (by intro i; funext a; exact a.elim0) c).trans ?_
    rw [hM]
    constructor
    · exact fun h k => h.2 _
    · refine fun h => ⟨?_, fun i => ?_⟩
      · exact (bits_neg_inf.trans_le bot_le : _)
      · change S270x1x1.Idx at i
        idx_vars i
        obtain rfl : i1 = 0 := Subsingleton.elim _ _
        obtain rfl : i2 = 0 := Subsingleton.elim _ _
        exact h i0
  unfold scaleOf
  generalize Host.reduce FloatOps.maximumf v (constant (F := Ideal) S_ .f32 0xFF800000#32) reducesTo_S270x1x1_S_d0_1_2 h_S_ = R at key ⊢
  pointwise
  rw [bits_50, key]

/-- The block maxima have the upper bounds of all the logarithmic depths. -/
theorem maxima_bound (d : FVec Ideal S2x1x1080x1920 .f32) (b : EReal) :
    (∀ k : Fin 270, (Finset.univ.fold max ⊥ fun p : Fin 8 × Fin 1920 => logDepth (d (ix4 (blockImage k) 0 (blockRow k p.1) p.2))) ≤ b)
      ↔ ∀ (i : Fin 2) (y : Fin 1080) (x : Fin 1920), logDepth (d (ix4 i 0 y x)) ≤ b := by
  simp only [Finset.fold_max_le, bot_le, true_and, Finset.mem_univ, true_implies]
  constructor
  · intro h i y x
    have := h ⟨i.val * 135 + y.val / 8, by omega⟩ (⟨y.val % 8, by omega⟩, x)
    have e1 : blockImage ⟨i.val * 135 + y.val / 8, by omega⟩ = i := Fin.ext (by show (i.val * 135 + y.val / 8) / 135 = _; omega)
    have e2 : blockRow ⟨i.val * 135 + y.val / 8, by omega⟩ ⟨y.val % 8, by omega⟩ = y :=
      Fin.ext (by show (i.val * 135 + y.val / 8) % 135 * 8 + y.val % 8 = _; omega)
    rwa [e1, e2] at this
  · exact fun h k p => h _ _ _

end Cert.KernelIdeal.Splat
-- ==== Proof.RecordsBlock.lean ====
/- What one block of the kernel's second launch computes from its input blocks, read at an entry. -/
module

public import proofs.«01_k».proof.Proof.Spec
public import proofs.«01_k».proof.Proof.Gen.KernelIdeal.Frame

@[expose] public section

set_option maxRecDepth 16384

noncomputable section

namespace Cert.KernelIdeal.Splat

open Idealize.ShloMosaic Idealize.ShloMosaic.Tactic
open Cert.KernelIdeal Cert.KernelIdeal.Gen Cert.Splat

/-- The horizontal position: flow, plus the column, plus one. -/
theorem pay_x (v2 : FVec Ideal S1x2x8x1920 .f32) (r : Fin 8) (x : Fin 1920) :
    k1_pay4 (F := Ideal) v2 (ix2 r x) = v2 (ix4 0 0 r x) + ((x.val : ℝ) : EReal) + 1 := by
  pointwise [k1_pay4, k1_pay3]
  rw [sitofp_nat _ (by omega)]

/-- The vertical position: flow, plus the row inside the block, plus the block's first row and one. -/
theorem pay_y (i : grid1.Coords) (v2 : FVec Ideal S1x2x8x1920 .f32) (r : Fin 8) (x : Fin 1920) :
    k1_pay5 (F := Ideal) i v2 (ix2 r x) = v2 (ix4 0 1 r x) + ((r.val : ℝ) : EReal) + ((((((i 1).val * 8 : ℕ) : ℝ)) : EReal) + 1) := by
  have hi : (i 1).val < 135 := (i 1).isLt
  pointwise [k1_pay5, k1_pay3]
  rw [sitofp_nat _ (by omega)]
  have e : Scalar.muli (BitVec.ofNat 32 (i 1).val) 8#32 = BitVec.ofNat 32 ((i 1).val * 8) := (BitVec.ofNat_mul _ _).symm
  rw [e, word_real _ (by omega), Int.cast_natCast]

theorem pay_fx (v2 : FVec Ideal S1x2x8x1920 .f32) (r : Fin 8) (x : Fin 1920) :
    k1_pay6 (F := Ideal) v2 (ix2 r x) = cellLo 1921 (k1_pay4 (F := Ideal) v2 (ix2 r x)) := by
  pointwise [k1_pay6]
  rfl

theorem pay_fy (i : grid1.Coords) (v2 : FVec Ideal S1x2x8x1920 .f32) (r : Fin 8) (x : Fin 1920) :
    k1_pay7 (F := Ideal) i v2 (ix2 r x) = cellLo 1081 (k1_pay5 (F := Ideal) i v2 (ix2 r x)) := by
  pointwise [k1_pay7]
  rfl

theorem pay_cy (i : grid1.Coords) (v2 : FVec Ideal S1x2x8x1920 .f32) (r : Fin 8) (x : Fin 1920) :
    k1_pay8 (F := Ideal) i v2 (ix2 r x) = cellHi 1081 (k1_pay5 (F := Ideal) i v2 (ix2 r x)) := by
  pointwise [k1_pay8]
  rfl

/-- The kernel's horizontal fraction. -/
theorem pay_fracx (v2 : FVec Ideal S1x2x8x1920 .f32) (r : Fin 8) (x : Fin 1920) :
    k1_pay10 (F := Ideal) (k1_pay6 (F := Ideal) v2) (Scalar.ofBits .f32 0x44F02000#32) (k1_pay9 (F := Ideal) v2) (ix2 r x)
      = cellFrac 1921 (k1_pay4 (F := Ideal) v2 (ix2 r x)) := by
  pointwise [k1_pay10, k1_pay9]
  rw [pay_fx]
  show min (Ideal.ofBits .f32 0x44F02000#32) _ - _ = _
  rw [bits_1921]
  rfl

/-- The kernel's vertical fraction. -/
theorem pay_fracy (i : grid1.Coords) (v2 : FVec Ideal S1x2x8x1920 .f32) (r : Fin 8) (x : Fin 1920) :
    k1_pay11 (F := Ideal) (k1_pay5 (F := Ideal) i v2) (k1_pay7 (F := Ideal) i v2) (ix2 r x) = cellFrac 1081 (k1_pay5 (F := Ideal) i v2 (ix2 r x)) := by
  pointwise [k1_pay11]
  rw [pay_fy, bits_1081]
  rfl

/-- The weight of the depth. -/
theorem pay_invd (s : EReal) (v51 : FVec Ideal S1x1x8x1920 .f32) (r : Fin 8) (x : Fin 1920) :
    k1_pay12 (F := Ideal) s v51 (ix2 r x) = depthWeight s (v51 (ix4 0 0 r x)) := by
  pointwise [k1_pay12]
  rw [bits_1000]
  rfl

theorem pay_words (p q : IVec S8x1920 32) (r : Fin 8) (k : Fin 4) (x : Fin 1920) :
    k1_pay23 p q (ix3 r k x) = match k with
      | 0 => p (ix2 r x) | 1 => p (ix2 r x) + 1#32 | 2 => q (ix2 r x) | 3 => q (ix2 r x) + 1#32 := by
  fin_cases k <;> (pointwise [k1_pay23]; try rfl)

/-- The block of target words: at row `r`, place `k`, column `x` the pixel's `k`-th target. -/
theorem block_words (i : grid1.Coords) (v2 : FVec Ideal S1x2x8x1920 .f32) (r : Fin 8) (k : Fin 4) (x : Fin 1920) :
    k1_pay23 (k1_pay17 (BitVec.ofNat 32 (i 0).val) (k1_pay6 (F := Ideal) v2) (k1_pay7 (F := Ideal) i v2))
        (k1_pay18 (BitVec.ofNat 32 (i 0).val) (k1_pay6 (F := Ideal) v2) (k1_pay7 (F := Ideal) i v2) (k1_pay8 (F := Ideal) i v2)) (ix3 r k x)
      = words (i 0).val (k1_pay4 (F := Ideal) v2 (ix2 r x)) (k1_pay5 (F := Ideal) i v2 (ix2 r x)) k := by
  have h1 : k1_pay17 (BitVec.ofNat 32 (i 0).val) (k1_pay6 (F := Ideal) v2) (k1_pay7 (F := Ideal) i v2) (ix2 r x)
      = topWord (i 0).val (k1_pay4 (F := Ideal) v2 (ix2 r x)) (k1_pay5 (F := Ideal) i v2 (ix2 r x)) := by
    pointwise [k1_pay17]
    rw [pay_fx, pay_fy]
    rfl
  have h2 : k1_pay18 (BitVec.ofNat 32 (i 0).val) (k1_pay6 (F := Ideal) v2) (k1_pay7 (F := Ideal) i v2) (k1_pay8 (F := Ideal) i v2) (ix2 r x)
      = lowWord (i 0).val (k1_pay4 (F := Ideal) v2 (ix2 r x)) (k1_pay5 (F := Ideal) i v2 (ix2 r x)) := by
    pointwise [k1_pay18]
    rw [h1, pay_fy, pay_cy]
    rfl
  rw [pay_words, h1, h2]
  fin_cases k <;> rfl

/-- The block of contributions as the launch composes it: from the fractions, the depth weights times the vertical factors, and the colours. -/
def contributions (v0 v1 u0 u1 : FVec Ideal S8x1920 .f32) (fr : FVec Ideal S3x8x1920 .f32) : FVec Ideal S8x16x1920 .f32 :=
  k1_pay1 (k1_pay20 u1 v0) (k1_pay21 v1 u0) (k1_pay22 v1 u1) (k1_pay24 v1 u0 fr) (k1_pay25 v1 u0 fr) (k1_pay26 v1 u0 fr)
    (k1_pay27 u1 v0 fr) (k1_pay28 u1 v0 fr) (k1_pay29 u1 v0 fr) (k1_pay30 v1 u1 fr) (k1_pay31 v1 u1 fr) (k1_pay32 v1 u1 fr)
    (k1_pay33 u0 v0 fr) (k1_pay34 u0 v0 fr) (k1_pay35 u0 v0 fr) (k1_pay36 u0 v0)

theorem contributions_at (v0 v1 u0 u1 : FVec Ideal S8x1920 .f32) (fr : FVec Ideal S3x8x1920 .f32) (r : Fin 8) (k ch : Fin 4) (x : Fin 1920) :
    contributions v0 v1 u0 u1 fr (ix3 r ⟨k.val * 4 + ch.val, by omega⟩ x)
      = share (match k with
          | 0 => u0 (ix2 r x) * v0 (ix2 r x) | 1 => u0 (ix2 r x) * v1 (ix2 r x)
          | 2 => u1 (ix2 r x) * v0 (ix2 r x) | 3 => u1 (ix2 r x) * v1 (ix2 r x)) (fun c => fr (ix3 c r x)) ch := by
  fin_cases k <;> fin_cases ch <;>
    (pointwise [contributions, k1_pay1, k1_pay19, k1_pay20, k1_pay21, k1_pay22, k1_pay24, k1_pay25, k1_pay26, k1_pay27, k1_pay28, k1_pay29, k1_pay30,
      k1_pay31, k1_pay32, k1_pay33, k1_pay34, k1_pay35, k1_pay36]; try rfl)

/-- The block of contributions: at row `r`, place `4 k + ch`, column `x` what the pixel adds at its `k`-th target on channel `ch`. -/
theorem block_vals (i : grid1.Coords) (s : EReal) (v68 : FVec Ideal S1x3x8x1920 .f32) (v51 : FVec Ideal S1x1x8x1920 .f32) (v2 : FVec Ideal S1x2x8x1920 .f32)
    (r : Fin 8) (k ch : Fin 4) (x : Fin 1920) :
    contributions (k1_pay15 (F := Ideal) (k1_pay6 (F := Ideal) v2) (Scalar.ofBits .f32 0x44F02000#32) (k1_pay9 (F := Ideal) v2))
        (k1_pay10 (F := Ideal) (k1_pay6 (F := Ideal) v2) (Scalar.ofBits .f32 0x44F02000#32) (k1_pay9 (F := Ideal) v2))
        (k1_pay13 (F := Ideal) s (k1_pay5 (F := Ideal) i v2) (k1_pay7 (F := Ideal) i v2) v51) (k1_pay14 (F := Ideal) s (k1_pay5 (F := Ideal) i v2) (k1_pay7 (F := Ideal) i v2) v51)
        (k1_pay16 (F := Ideal) v68) (ix3 r ⟨k.val * 4 + ch.val, by omega⟩ x)
      = share (weights s (v51 (ix4 0 0 r x)) (k1_pay4 (F := Ideal) v2 (ix2 r x)) (k1_pay5 (F := Ideal) i v2 (ix2 r x)) k) (fun c => v68 (ix4 0 c r x)) ch := by
  have hv0 : k1_pay15 (F := Ideal) (k1_pay6 (F := Ideal) v2) (Scalar.ofBits .f32 0x44F02000#32) (k1_pay9 (F := Ideal) v2) (ix2 r x)
      = 1 - cellFrac 1921 (k1_pay4 (F := Ideal) v2 (ix2 r x)) := by
    rw [← pay_fracx]
    pointwise [k1_pay15]
  have hu0 : k1_pay13 (F := Ideal) s (k1_pay5 (F := Ideal) i v2) (k1_pay7 (F := Ideal) i v2) v51 (ix2 r x)
      = (1 - cellFrac 1081 (k1_pay5 (F := Ideal) i v2 (ix2 r x))) * depthWeight s (v51 (ix4 0 0 r x)) := by
    rw [← pay_fracy, ← pay_invd]
    pointwise [k1_pay13]
  have hu1 : k1_pay14 (F := Ideal) s (k1_pay5 (F := Ideal) i v2) (k1_pay7 (F := Ideal) i v2) v51 (ix2 r x)
      = cellFrac 1081 (k1_pay5 (F := Ideal) i v2 (ix2 r x)) * depthWeight s (v51 (ix4 0 0 r x)) := by
    rw [← pay_fracy, ← pay_invd]
    pointwise [k1_pay14]
  have hf : (fun c : Fin 3 => k1_pay16 (F := Ideal) v68 (ix3 c r x)) = fun c => v68 (ix4 0 c r x) := by
    funext c
    pointwise [k1_pay16]
  rw [contributions_at, hf, pay_fracx, hv0, hu0, hu1]
  fin_cases k <;> rfl

end Cert.KernelIdeal.Splat
-- ==== Proof.RecordsArray.lean ====
/- The two arrays the kernel's second launch leaves: every pixel's target words and its contributions. -/
module

public import proofs.«01_k».proof.Proof.RecordsBlock
public import Idealize.ShloMosaic.Lib.Pipeline.ValueKit

@[expose] public section

set_option maxRecDepth 16384

noncomputable section

namespace Cert.KernelIdeal.Splat

open Idealize.ShloMosaic Idealize.ShloMosaic.TcCoe Idealize.ShloMosaic.Tactic Idealize.ShloMosaic.Pipeline
open Cert.KernelIdeal Cert.KernelIdeal.Gen Cert.Splat

variable (V : (c : Dev nD) → (b : Ref sig .tc) → Buf (Elt Ideal) ((c.tc : Thread nD τ).loc b))

/-- The windows' blocks at every grid point, and the point's two coordinates. -/
theorem idx1 : ∀ t : Fin cfg1.N, (win1_0.index t = ![0, 0] ∧ win1_1.index t = ![t.val / 135, 0, t.val % 135, 0]
    ∧ win1_2.index t = ![t.val / 135, 0, t.val % 135, 0] ∧ win1_3.index t = ![t.val / 135, 0, t.val % 135, 0])
    ∧ (win1_4.index t = ![t.val, 0, 0] ∧ win1_5.index t = ![t.val, 0, 0])
    ∧ (grid1.coords t 0).val = t.val / 135 ∧ (grid1.coords t 1).val = t.val % 135 :=
  (by decide +kernel : ∀ t : Fin grid1.N, _)

/-- Row `q` of the two images stacked belongs to image `q / 1080`. -/
abbrev imageOf (q : Fin 2160) : Fin 2 := ⟨q.val / 1080, by omega⟩
/-- Row `q` of the two images stacked is row `q % 1080` of its image. -/
abbrev rowOf (q : Fin 2160) : Fin 1080 := ⟨q.val % 1080, by omega⟩

/-- Record `w` of the sixteen a pixel has belongs to place `w / 4`. -/
def placeOf (w : Fin 16) : Fin 4 := ⟨w.val / 4, by omega⟩
/-- Record `w` of the sixteen a pixel has belongs to channel `w % 4`. -/
def channelOf (w : Fin 16) : Fin 4 := ⟨w.val % 4, by omega⟩

/-- A block's position in the flow array. -/
theorem block_pos (c : Dev nD) (fl : FVec Ideal S2x2x1080x1920 .f32) (h : V c (Pipeline.arrRef spec1 3) = fl) (t : Fin cfg1.N) (r : Fin 8) (x : Fin 1920)
    (q : Fin 2160) (hq : q.val = t.val * 8 + r.val) :
    k1_pay4 (F := Ideal) (iblk1 (F := Ideal) V c 3 t) (ix2 r x) = posX fl (imageOf q) (rowOf q) x
    ∧ k1_pay5 (F := Ideal) (grid1.coords t) (iblk1 (F := Ideal) V c 3 t) (ix2 r x) = posY fl (imageOf q) (rowOf q) x := by
  obtain ⟨⟨-, -, -, e3⟩, -, c0, c1⟩ := idx1 t
  have ht : t.val < 270 := t.isLt
  constructor
  · refine (pay_x _ r x).trans ?_
    unfold posX
    rw [← h]
    congr 2
    blk_ext [iblk1, e3]
  · refine (pay_y _ _ r x).trans ?_
    unfold posY
    rw [c1, ← h, pos_split _ _ _ (rowOf q).val (by show q.val % 1080 = _; omega)]
    congr 2
    blk_ext [iblk1, e3]

/-- What a block leaves of the target words. -/
theorem left_words (i : grid1.Coords) (x0 : FVec Ideal S1x1 .f32) (x1 : FVec Ideal S1x3x8x1920 .f32) (x2 : FVec Ideal S1x1x8x1920 .f32) (x3 : FVec Ideal S1x2x8x1920 .f32)
    (r : Fin 8) (k : Fin 4) (x : Fin 1920) :
    out1_4 (F := Ideal) i x0 x1 x2 x3 (ix3 r k x) = words (i 0).val (k1_pay4 (F := Ideal) x3 (ix2 r x)) (k1_pay5 (F := Ideal) i x3 (ix2 r x)) k := by
  unfold_out out1_4
  frame_out
  exact block_words i x3 r k x

/-- What a block leaves of the contributions. -/
theorem left_vals (i : grid1.Coords) (x0 : FVec Ideal S1x1 .f32) (x1 : FVec Ideal S1x3x8x1920 .f32) (x2 : FVec Ideal S1x1x8x1920 .f32) (x3 : FVec Ideal S1x2x8x1920 .f32)
    (r : Fin 8) (k ch : Fin 4) (x : Fin 1920) :
    out1_5 (F := Ideal) i x0 x1 x2 x3 (ix3 r ⟨k.val * 4 + ch.val, by omega⟩ x)
      = share (weights (x0 (ix2 0 0)) (x2 (ix4 0 0 r x)) (k1_pay4 (F := Ideal) x3 (ix2 r x)) (k1_pay5 (F := Ideal) i x3 (ix2 r x)) k) (fun c => x1 (ix4 0 c r x)) ch := by
  have hs : k1_pay2 (F := Ideal) x0 = x0 (ix2 0 0) := by
    pointwise [k1_pay2]
  rw [← hs]
  unfold_out out1_5
  frame_out
  exact block_vals i (k1_pay2 (F := Ideal) x0) x1 x2 x3 r k ch x

/-- The array of target words: row `q`, place `k`, column `x`. -/
theorem words_array (c : Dev nD) (fl : FVec Ideal S2x2x1080x1920 .f32) (h : V c (Pipeline.arrRef spec1 3) = fl) :
    (dat1 (F := Ideal) V c).arrAt 4 cfg1.N
      = fun j : S2160x4x1920.Idx => words (imageOf (j 0)).val (posX fl (imageOf (j 0)) (rowOf (j 0)) (j 2)) (posY fl (imageOf (j 0)) (rowOf (j 0)) (j 2)) (j 1) := by
  refine (dat1 (F := Ideal) V c).arrAt_eq_of_covers 4 _ (by decide +kernel) fun t hf y => ?_
  obtain ⟨-, ⟨e4, e5⟩, c0, c1⟩ := idx1 t
  have ht : t.val < 270 := t.isLt
  blk_simp
  rw [after1_4]
  change S8x4x1920.Idx at y
  idx_vars y
  have hpos := block_pos V c fl h t y0 y2 ⟨t.val * 8 + y0.val, by omega⟩ rfl
  refine (left_words (grid1.coords t) _ _ _ _ y0 y1 y2).trans ?_
  rw [hpos.1, hpos.2, c0]
  have q : ((View.whole main_v4_0).slice (win1_4.rect t)).emb (ix3 y0 y1 y2) = ix3 (⟨t.val * 8 + y0.val, by omega⟩ : Fin 2160) y1 y2 := by
    blk_ext [e4]
  rw [q]
  have hb : (imageOf ⟨t.val * 8 + y0.val, by omega⟩).val = t.val / 135 := by show (t.val * 8 + y0.val) / 1080 = _; omega
  rw [← hb]
  rfl

/-- The array of contributions: row `q`, place `k` and channel `ch` (four to a place), column `x`. -/
theorem vals_array (c : Dev nD) (s : FVec Ideal S1x1 .f32) (hs : V c (Pipeline.arrRef spec1 0) = s)
    (fr : FVec Ideal S2x3x1080x1920 .f32) (hfr : V c (Pipeline.arrRef spec1 1) = fr)
    (d : FVec Ideal S2x1x1080x1920 .f32) (hd : V c (Pipeline.arrRef spec1 2) = d)
    (fl : FVec Ideal S2x2x1080x1920 .f32) (h : V c (Pipeline.arrRef spec1 3) = fl) :
    (dat1 (F := Ideal) V c).arrAt 5 cfg1.N
      = fun j : S2160x16x1920.Idx => share (weights (s (ix2 0 0)) (d (ix4 (imageOf (j 0)) 0 (rowOf (j 0)) (j 2)))
          (posX fl (imageOf (j 0)) (rowOf (j 0)) (j 2)) (posY fl (imageOf (j 0)) (rowOf (j 0)) (j 2))
          (placeOf (j 1)))
          (fun ch => fr (ix4 (imageOf (j 0)) ch (rowOf (j 0)) (j 2))) (channelOf (j 1)) := by
  refine (dat1 (F := Ideal) V c).arrAt_eq_of_covers 5 _ (by decide +kernel) fun t hf y => ?_
  obtain ⟨⟨w0, w1, w2, w3⟩, ⟨e4, e5⟩, c0, c1⟩ := idx1 t
  have ht : t.val < 270 := t.isLt
  blk_simp
  rw [after1_5]
  change S8x16x1920.Idx at y
  idx_vars y
  have hpos := block_pos V c fl h t y0 y2 ⟨t.val * 8 + y0.val, by omega⟩ rfl
  obtain ⟨k, ch, rfl⟩ : ∃ k ch : Fin 4, y1 = ⟨k.val * 4 + ch.val, by omega⟩ :=
    ⟨⟨y1.val / 4, by omega⟩, ⟨y1.val % 4, by omega⟩, Fin.ext (by show _ = y1.val / 4 * 4 + y1.val % 4; omega)⟩
  refine (left_vals (grid1.coords t) _ _ _ _ y0 k ch y2).trans ?_
  rw [hpos.1, hpos.2]
  have q : ((View.whole main_v4_1).slice (win1_5.rect t)).emb (ix3 y0 (⟨k.val * 4 + ch.val, by omega⟩ : Fin 16) y2)
      = ix3 (⟨t.val * 8 + y0.val, by omega⟩ : Fin 2160) (⟨k.val * 4 + ch.val, by omega⟩ : Fin 16) y2 := by
    blk_ext [e5]
  rw [q]
  have h0 : iblk1 (F := Ideal) V c 0 t (ix2 0 0) = s (ix2 0 0) := by
    rw [← hs]
    blk_ext [iblk1, w0]
  have h1 : ∀ ch : Fin 3, iblk1 (F := Ideal) V c 1 t (ix4 0 ch y0 y2)
      = fr (ix4 (imageOf ⟨t.val * 8 + y0.val, by omega⟩) ch (rowOf ⟨t.val * 8 + y0.val, by omega⟩) y2) := by
    intro ch
    rw [← hfr]
    blk_ext [iblk1, w1]
  have h2 : iblk1 (F := Ideal) V c 2 t (ix4 0 0 y0 y2)
      = d (ix4 (imageOf ⟨t.val * 8 + y0.val, by omega⟩) 0 (rowOf ⟨t.val * 8 + y0.val, by omega⟩) y2) := by
    rw [← hd]
    blk_ext [iblk1, w2]
  have hk : placeOf ⟨k.val * 4 + ch.val, by omega⟩ = k := Fin.ext (by show (k.val * 4 + ch.val) / 4 = _; omega)
  have hch : channelOf ⟨k.val * 4 + ch.val, by omega⟩ = ch := Fin.ext (by show (k.val * 4 + ch.val) % 4 = _; omega)
  rw [h0, h2, funext h1]
  show _ = share (weights _ _ _ _ (placeOf ⟨k.val * 4 + ch.val, by omega⟩)) _ (channelOf ⟨k.val * 4 + ch.val, by omega⟩)
  rw [hk, hch]
  rfl

end Cert.KernelIdeal.Splat
-- ==== Proof.RowScatter.lean ====
/- Adding rows into a matrix, each row to the place one index word names. -/
module

public import Idealize.ShloMosaic.Lib.Routing.OpsPair
public import Idealize.ShloMosaic.Lib.IdealHost

@[expose] public section

noncomputable section

namespace Cert.Splat

open Idealize.ShloMosaic Idealize.ShloMosaic.ValueIdx Idealize.ShloMosaic.Routing

/-- Update `(k, e)` of a scatter of rows of `C` entries lands at `(r, c)` exactly when its index word, read signed, is `r`
    and `e` is `c`. -/
theorem row_lands {R K C w : ℕ} (d : ScatterDims (shape2 R C) (shape2 K 1) (shape2 K C)) (huw : d.updateWindowDims = [1])
    (hiw : d.insertedWindowDims = [0]) (hsd : d.scatterDimsToOperandDims = [0]) (hivd : d.indexVectorDim = 1)
    (idx : IVec (shape2 K 1) w) (k : Fin K) (e : Fin C) (r : Fin R) (c : Fin C) :
    d.resultIdx? (ix2 k e) idx = some (ix2 r c) ↔ (idx (ix2 k 0)).toInt = r.val ∧ e = c := by
  have hm0 : (0 : Fin 2) ∈ d.scatterDimsToOperandDims := by rw [hsd]; simp
  have hm1 : (1 : Fin 2) ∉ d.scatterDimsToOperandDims := by rw [hsd]; simp
  have hkept : d.sKept = [1] := by
    show (shape2 R C).kept d.insertedWindowDims = _
    rw [hiw]
    rfl
  have hwin0 : d.window (ix2 k e) 0 = 0 := by
    unfold ScatterDims.window
    rw [dif_neg fun h => (of_decide_eq_true (List.mem_filter.1 h).2) (by rw [hiw]; simp)]
  have pick : ∀ (l : List (Fin 2)) (n : ℕ) (h : n < l.length) (m : Fin 2), l = [m] → l[n]'h = m := by
    intro l n h m hl
    subst hl
    have : n = 0 := by simpa using h
    subst this
    rfl
  have hwin1 : d.window (ix2 k e) 1 = e.val := by
    unfold ScatterDims.window
    rw [dif_pos (by rw [hkept]; simp)]
    rw [pick _ _ _ 1 huw]
  have hk : d.siKept = [0] := by
    show (List.finRange 2).filter (fun x => decide (x.val ≠ d.indexVectorDim)) = _
    rw [hivd]
    rfl
  have hu : d.uScatter = [0] := by
    show (shape2 K C).kept d.updateWindowDims = _
    rw [huw]
    rfl
  have hsi : d.siIdx (ix2 k e) ⟨d.scatterDimsToOperandDims.idxOf 0, List.idxOf_lt_length_iff.2 hm0⟩ = ix2 k (0 : Fin 1) := by
    funext b'
    match b' with
    | ⟨0, _⟩ =>
      apply Fin.ext
      unfold ScatterDims.siIdx
      rw [dif_neg (by rw [hivd]; exact (by decide : (0 : ℕ) ≠ 1))]
      unfold ScatterDims.siCoord
      simp only [Fin.val_cast]
      rw [pick _ _ _ 0 hu]
    | ⟨1, _⟩ => exact Subsingleton.elim (α := Fin 1) _ _
  have hs0 : d.start (ix2 k e) idx 0 = (idx (ix2 k 0)).toInt := by
    unfold ScatterDims.start
    rw [dif_pos hm0, hsi]
  have hs1 : d.start (ix2 k e) idx 1 = 0 := by
    unfold ScatterDims.start
    rw [dif_neg hm1]
  rw [resultIdx?_ix2, hs0, hs1, hwin0, hwin1, Fin.ext_iff]
  omega

/-- A matrix to which rows were added, read at an entry: the entry, plus the sum of the updates of that column whose index word names the row. -/
theorem row_scatter {R K C w : ℕ} (d : ScatterDims (shape2 R C) (shape2 K 1) (shape2 K C)) (huw : d.updateWindowDims = [1])
    (hiw : d.insertedWindowDims = [0]) (hsd : d.scatterDimsToOperandDims = [0]) (hivd : d.indexVectorDim = 1)
    (x : FVec Ideal (shape2 R C) .f32) (idx : IVec (shape2 K 1) w) (upd : FVec Ideal (shape2 K C) .f32) (r : Fin R) (c : Fin C) :
    Host.scatterAdd (F := Ideal) (φ := .f32) d x idx upd (ix2 r c)
      = x (ix2 r c) + ∑ k : Fin K, if (idx (ix2 k 0)).toInt = r.val then upd (ix2 k c) else (0 : EReal) := by
  unfold Host.scatterAdd
  rw [Ideal.hostScatterAdd_def]
  show x (ix2 r c) + _ = x (ix2 r c) + _
  congr 1
  rw [Finset.sum_filter, sum_idx2]
  refine Finset.sum_congr rfl fun k _ => ?_
  rw [Finset.sum_eq_single c]
  · by_cases h : (idx (ix2 k 0)).toInt = r.val
    · rw [if_pos h, if_pos ((row_lands d huw hiw hsd hivd idx k c r c).2 ⟨h, rfl⟩)]
    · rw [if_neg h, if_neg fun q => h ((row_lands d huw hiw hsd hivd idx k c r c).1 q).1]
  · intro e _ he
    rw [if_neg fun q => he ((row_lands d huw hiw hsd hivd idx k e r c).1 q).2]
  · intro h; exact absurd (Finset.mem_univ _) h

end Cert.Splat
-- ==== Proof.Canvas.lean ====
/- The canvas the kernel's host operations lay out between the second and the third launch. -/
module

public import proofs.«01_k».proof.Proof.RecordsArray
public import proofs.«01_k».proof.Proof.RowScatter
public import Idealize.ShloMosaic.Lib.Routing.OpsPair

@[expose] public section

set_option maxRecDepth 16384

noncomputable section

namespace Cert.KernelIdeal.Splat

open Idealize.ShloMosaic Idealize.ShloMosaic.TcCoe Idealize.ShloMosaic.Tactic Idealize.ShloMosaic.Pipeline
open Cert.KernelIdeal Cert.KernelIdeal.Gen Cert.Splat

/-- The scattered rows laid out as images: channel `ch` of place `(Y, X)` is entry `ch` of row `(b * 1096 + Y) * 1922 + X`. -/
theorem laid_out (v : FVec Ideal S4213024x4 .f32) (b : Fin 2) (ch : Fin 4) (Y : Fin 1096) (X : Fin 1922) :
    transpose S2x4x1096x1922 [0, 3, 1, 2] (shapeCast S2x1096x1922x4 v shapeCasts_S4213024x4_S2x1096x1922x4) transposes_S2x1096x1922x4_S2x4x1096x1922_0_3_1_2 (ix4 b ch Y X)
      = v (ix2 ⟨(b.val * 1096 + Y.val) * 1922 + X.val, by omega⟩ ch) := by
  pointwise
  congr 2 <;> exact Fin.ext (by dsimp only; omega)

/-- The words in a line: word `k` of pixel `n`, the pixels counted image by image, row by row. -/
theorem words_line (w : IVec S2160x4x1920 32) (n : Fin 4147200) (k : Fin 4) :
    shapeCast S16588800 (transpose S2160x1920x4 [0, 2, 1] w transposes_S2160x4x1920_S2160x1920x4_0_2_1) shapeCasts_S2160x1920x4_S16588800 (ix1 ⟨n.val * 4 + k.val, by omega⟩)
      = w (ix3 ⟨n.val / 1920, by omega⟩ k ⟨n.val % 1920, by omega⟩) := by
  pointwise
  congr 2 <;> exact Fin.ext (by dsimp only; omega)

/-- The contributions in a line, four channels to a row. -/
theorem vals_line (u : FVec Ideal S2160x16x1920 .f32) (n : Fin 4147200) (k ch : Fin 4) :
    shapeCast S16588800x4 (shapeCast S4147200x4x4 (transpose S2160x1920x16 [0, 2, 1] u transposes_S2160x16x1920_S2160x1920x16_0_2_1) shapeCasts_S2160x1920x16_S4147200x4x4)
        shapeCasts_S4147200x4x4_S16588800x4 (ix2 ⟨n.val * 4 + k.val, by omega⟩ ch)
      = u (ix3 ⟨n.val / 1920, by omega⟩ ⟨k.val * 4 + ch.val, by omega⟩ ⟨n.val % 1920, by omega⟩) := by
  pointwise
  congr 2 <;> exact Fin.ext (by dsimp only; omega)

/-- The canvas made of the words and the contributions: every contribution added at its word's row, the rows laid out as images. -/
def canvasOf (w : IVec S2160x4x1920 32) (u : FVec Ideal S2160x16x1920 .f32) : FVec Ideal S2x4x1096x1922 .f32 :=
  let line := shapeCast S16588800 (transpose S2160x1920x4 [0, 2, 1] w transposes_S2160x4x1920_S2160x1920x4_0_2_1) shapeCasts_S2160x1920x4_S16588800
  transpose S2x4x1096x1922 [0, 3, 1, 2]
    (shapeCast S2x1096x1922x4
      (Host.scatterAdd (F := Ideal) scatter_S4213024x4_S16588800x1_S16588800x4_1_0_0_1 (broadcastInDim S4213024x4 ![] bcast_S_S4213024x4 (constant S_ .f32 0x00000000#32))
        (broadcastInDim S16588800x1 ![0] bcast_S16588800_S16588800x1_0
          (select (cmpi .slt line (broadcastInDim S16588800 ![] bcast_S_S16588800 (constantI S_ 32 0#32)))
            (addi line (broadcastInDim S16588800 ![] bcast_S_S16588800 (constantI S_ 32 4213024#32))) line))
        (shapeCast S16588800x4 (shapeCast S4147200x4x4 (transpose S2160x1920x16 [0, 2, 1] u transposes_S2160x16x1920_S2160x1920x16_0_2_1)
          shapeCasts_S2160x1920x16_S4147200x4x4) shapeCasts_S4147200x4x4_S16588800x4))
      shapeCasts_S4213024x4_S2x1096x1922x4) transposes_S2x1096x1922x4_S2x4x1096x1922_0_3_1_2

/-- Entry `ch` of place `(Y, X)`: the sum, over the pixels and their four words, of the contributions whose word names that place. -/
theorem canvas_at (w : IVec S2160x4x1920 32) (u : FVec Ideal S2160x16x1920 .f32) (hw : ∀ q k x, (w (ix3 q k x)).toNat < 2 ^ 31)
    (b : Fin 2) (ch : Fin 4) (Y : Fin 1096) (X : Fin 1922) :
    canvasOf w u (ix4 b ch Y X)
      = ∑ n : Fin 4147200, ∑ k : Fin 4, if (w (ix3 ⟨n.val / 1920, by omega⟩ k ⟨n.val % 1920, by omega⟩)).toInt = (((b.val * 1096 + Y.val) * 1922 + X.val : ℕ) : ℤ)
          then u (ix3 ⟨n.val / 1920, by omega⟩ ⟨k.val * 4 + ch.val, by omega⟩ ⟨n.val % 1920, by omega⟩) else (0 : EReal) := by
  unfold canvasOf
  dsimp only
  rw [laid_out]
  refine (row_scatter _ rfl rfl rfl rfl _ _ _ _ _).trans ?_
  simp only [← ix2_eq_valueIdx]
  refine (congrArg (· + _) (show _ = (0 : EReal) by pointwise)).trans ((zero_add _).trans ?_)
  refine (Fin.sum_univ_tiles 4147200 4 rfl _).trans (Finset.sum_congr rfl fun n _ => Finset.sum_congr rfl fun k _ => ?_)
  refine ite_congr (congrArg (· = _) (congrArg BitVec.toInt ?_)) (fun _ => ?_) fun _ => rfl
  · have hl := words_line w n k
    generalize shapeCast S16588800 (transpose S2160x1920x4 [0, 2, 1] w transposes_S2160x4x1920_S2160x1920x4_0_2_1) shapeCasts_S2160x1920x4_S16588800 = line at hl ⊢
    pointwise
    exact (Routing.wrap_of_lt _ _ (by rw [hl]; exact hw _ _ _)).trans hl
  · exact vals_line u n k ch

variable (m : (ℓ : Loc nD τ sig) → Buf (Elt Ideal) ℓ) (ρ : Dev nD → PrngReg)

/-- The third launch's first operand is the canvas of what the second one leaves. -/
theorem canvas_operand (c : Dev nD) : V4 m ρ c main_v19 = canvasOf (W3 m ρ c main_v4_0) (W3 m ρ c main_v4_1) := by
  show StableHlo.after hostOps2 (W3 m ρ c) _ = _
  after_results
  rfl

/-- Its second operand is the second frame. -/
theorem other_operand (c : Dev nD) : V4 m ρ c main_v20
    = shapeCast S2x3x1080x1920 (m ((c : Thread nD τ).loc main_arg1) : FVec Ideal S1x2x3x1080x1920 .f32) shapeCasts_S1x2x3x1080x1920_S2x3x1080x1920 := by
  show StableHlo.after hostOps2 (W3 m ρ c) _ = _
  after_results
  rw [W3_args m ρ c main_arg1 (by decide)]
  rfl

end Cert.KernelIdeal.Splat
-- ==== Proof.ComposeArray.lean ====
/- The two result arrays after the kernel's last launch, from the arrays the launch is entered with. -/
module

public import proofs.«01_k».proof.Proof.ComposeBlock
public import Idealize.ShloMosaic.Lib.Pipeline.ValueKit

@[expose] public section

set_option maxRecDepth 16384

noncomputable section

namespace Cert.KernelIdeal.Splat

open Idealize.ShloMosaic Idealize.ShloMosaic.TcCoe Idealize.ShloMosaic.Tactic Idealize.ShloMosaic.Pipeline
open Cert.KernelIdeal Cert.KernelIdeal.Gen Cert.Splat

variable (V : (c : Dev nD) → (b : Ref sig .tc) → Buf (Elt Ideal) ((c.tc : Thread nD τ).loc b))

/-- The four windows' blocks at every grid point. -/
theorem idx2 : ∀ t : Fin cfg2.N, win2_0.index t = ![t.val / 135, 0, t.val % 135 + 1, 0] ∧ win2_1.index t = ![t.val / 135, 0, t.val % 135, 0]
    ∧ win2_2.index t = ![t.val / 135, 0, t.val % 135, 0] ∧ win2_3.index t = ![t.val / 135, 0, t.val % 135, 0] :=
  (by decide +kernel : ∀ t : Fin grid2.N, _)

/-- The canvas row that holds image row `y`. -/
def canvasRow (y : Fin 1080) : Fin 1096 := ⟨8 + y.val, by omega⟩
/-- The canvas column that holds image column `x`. -/
def canvasCol (x : Fin 1920) : Fin 1922 := ⟨1 + x.val, by omega⟩
/-- A colour channel among the canvas's four. -/
def canvasChannel (ch : Fin 3) : Fin 4 := ⟨ch.val, by omega⟩

/-- A block's place in the canvas. -/
theorem block_canvas (c : Dev nD) (canvas : FVec Ideal S2x4x1096x1922 .f32) (h : V c (Pipeline.arrRef spec2 0) = canvas) (t : Fin cfg2.N)
    (ch : Fin 4) (r : Fin 8) (x : Fin 1920) :
    iblk2 (F := Ideal) V c 0 t (ix4 0 ch r ⟨1 + x.val, by omega⟩)
      = canvas (ix4 (⟨t.val / 135, by have : t.val < 270 := t.isLt; omega⟩ : Fin 2) ch (canvasRow ⟨t.val % 135 * 8 + r.val, by omega⟩) (canvasCol x)) := by
  obtain ⟨e0, -⟩ := idx2 t
  rw [← h]
  unfold canvasRow canvasCol
  blk_ext [iblk2, e0]

/-- A block's place in the second frame. -/
theorem block_other (c : Dev nD) (other : FVec Ideal S2x3x1080x1920 .f32) (h : V c (Pipeline.arrRef spec2 1) = other) (t : Fin cfg2.N)
    (ch : Fin 3) (r : Fin 8) (x : Fin 1920) :
    iblk2 (F := Ideal) V c 1 t (ix4 0 ch r x)
      = other (ix4 (⟨t.val / 135, by have : t.val < 270 := t.isLt; omega⟩ : Fin 2) ch (⟨t.val % 135 * 8 + r.val, by omega⟩ : Fin 1080) x) := by
  obtain ⟨-, e1, -⟩ := idx2 t
  rw [← h]
  blk_ext [iblk2, e1]

/-- The mask array: at each place whether the accumulated weight there is positive. -/
theorem mask_array (c : Dev nD) (canvas : FVec Ideal S2x4x1096x1922 .f32) (h : V c (Pipeline.arrRef spec2 0) = canvas) :
    (dat2 (F := Ideal) V c).arrAt 3 cfg2.N
      = fun j : S2x1x1080x1920.Idx => covered (canvas (ix4 (j 0) 3 (canvasRow (j 2)) (canvasCol (j 3)))) := by
  refine (dat2 (F := Ideal) V c).arrAt_eq_of_covers 3 _ (by decide +kernel) fun t hf y => ?_
  obtain ⟨e0, e1, e2, e3⟩ := idx2 t
  blk_simp
  rw [after2_3]
  frame_out
  change S1x1x8x1920.Idx at y
  idx_vars y
  obtain rfl : y0 = 0 := Subsingleton.elim _ _
  obtain rfl : y1 = 0 := Subsingleton.elim _ _
  have ht : t.val < 270 := t.isLt
  refine (compose_mask _ y2 y3).trans (congrArg covered ?_)
  have q : ((View.whole main_v21_1).slice (win2_3.rect t)).emb (ix4 (0 : Fin 1) (0 : Fin 1) y2 y3)
      = ix4 (⟨t.val / 135, by omega⟩ : Fin 2) (0 : Fin 1) (⟨t.val % 135 * 8 + y2.val, by omega⟩ : Fin 1080) y3 := by
    blk_ext [e3]
  rw [q]
  show _ = canvas (ix4 (⟨t.val / 135, by omega⟩ : Fin 2) 3 (canvasRow ⟨t.val % 135 * 8 + y2.val, by omega⟩) (canvasCol y3))
  exact block_canvas V c canvas h t 3 y2 y3

/-- The image array: at each place the accumulated colour over the accumulated weight where that is positive, the second frame elsewhere. -/
theorem image_array (c : Dev nD) (canvas : FVec Ideal S2x4x1096x1922 .f32) (h : V c (Pipeline.arrRef spec2 0) = canvas)
    (other : FVec Ideal S2x3x1080x1920 .f32) (h' : V c (Pipeline.arrRef spec2 1) = other) :
    (dat2 (F := Ideal) V c).arrAt 2 cfg2.N
      = fun j : S2x3x1080x1920.Idx => filled (canvas (ix4 (j 0) 3 (canvasRow (j 2)) (canvasCol (j 3))))
        (canvas (ix4 (j 0) (canvasChannel (j 1)) (canvasRow (j 2)) (canvasCol (j 3)))) (other (ix4 (j 0) (j 1) (j 2) (j 3))) := by
  refine (dat2 (F := Ideal) V c).arrAt_eq_of_covers 2 _ (by decide +kernel) fun t hf y => ?_
  obtain ⟨e0, e1, e2, e3⟩ := idx2 t
  have ht : t.val < 270 := t.isLt
  blk_simp
  rw [after2_2]
  frame_out
  change S1x3x8x1920.Idx at y
  idx_vars y
  obtain rfl : y0 = 0 := Subsingleton.elim _ _
  refine (compose_out _ _ y1 y2 y3).trans ?_
  have q : ((View.whole main_v21_0).slice (win2_2.rect t)).emb (ix4 (0 : Fin 1) y1 y2 y3)
      = ix4 (⟨t.val / 135, by omega⟩ : Fin 2) y1 (⟨t.val % 135 * 8 + y2.val, by omega⟩ : Fin 1080) y3 := by
    blk_ext [e2]
  rw [q]
  rw [block_canvas V c canvas h t, block_canvas V c canvas h t, block_other V c other h' t]
  rfl

end Cert.KernelIdeal.Splat
-- ==== Proof.KernelTotal.lean ====
/- The kernel's two results read at an entry: what its canvas accumulates there is the plain formula's total. -/
module

public import proofs.«01_k».proof.Proof.Total
public import proofs.«01_k».proof.Proof.Scale
public import proofs.«01_k».proof.Proof.Canvas
public import proofs.«01_k».proof.Proof.ComposeArray

@[expose] public section

set_option maxRecDepth 16384

noncomputable section

namespace Cert.KernelIdeal.Splat

open Idealize.ShloMosaic Idealize.ShloMosaic.TcCoe Idealize.ShloMosaic.Tactic Idealize.ShloMosaic.Pipeline
open Cert.KernelIdeal Cert.KernelIdeal.Gen Cert.Splat

variable (m : (ℓ : Loc nD τ sig) → Buf (Elt Ideal) ℓ) (ρ : Dev nD → PrngReg) (c : Dev nD)

/-- The first frame. -/
def frameIn : FVec Ideal S2x3x1080x1920 .f32 := m ((c.tc : Thread nD τ).loc main_arg0)
/-- The second frame, as the kernel's last launch reads it. -/
def secondIn : FVec Ideal S2x3x1080x1920 .f32 :=
  shapeCast S2x3x1080x1920 (m ((c.tc : Thread nD τ).loc main_arg1) : FVec Ideal S1x2x3x1080x1920 .f32) shapeCasts_S1x2x3x1080x1920_S2x3x1080x1920
/-- The depths. -/
def depthIn : FVec Ideal S2x1x1080x1920 .f32 := m ((c.tc : Thread nD τ).loc main_arg2)
/-- The flow. -/
def flowIn : FVec Ideal S2x2x1080x1920 .f32 := m ((c.tc : Thread nD τ).loc main_arg3)

/-- The target words the second launch leaves. -/
theorem words_left (q : Fin 2160) (k : Fin 4) (x : Fin 1920) :
    (W3 m ρ c main_v4_0 : IVec S2160x4x1920 32) (ix3 q k x)
      = words (imageOf q).val (posX (flowIn m c) (imageOf q) (rowOf q) x) (posY (flowIn m c) (imageOf q) (rowOf q) x) k := by
  have e : (W3 m ρ c main_v4_0 : IVec S2160x4x1920 32) = _ :=
    (W3_arr m ρ c 4).trans (words_array (V2 m ρ) c (flowIn m c) (W2_args m ρ c main_arg3 (by decide)))
  rw [e]
  rfl

variable (M : ℝ) (hM : ∀ b : EReal, (M : EReal) ≤ b ↔ ∀ (i : Fin 2) (y : Fin 1080) (x : Fin 1920), logDepth (depthIn m c (ix4 i 0 y x)) ≤ b)
include hM

/-- The scale is fifty over the largest logarithmic depth. -/
theorem scale_value : scaleOf (W1 m ρ c main_v0) (ix2 0 0) = Ideal.div ((50 : ℝ) : EReal) (M : EReal) := by
  have e : (W1 m ρ c main_v0 : FVec Ideal S270x1x1 .f32) = _ :=
    (W1_arr m ρ c 1).trans (maxima_array (V0 m ρ) c (depthIn m c) rfl)
  refine scale_at _ _ fun b => ?_
  rw [hM, ← maxima_bound, e]
  rfl

/-- The contributions the second launch leaves. -/
theorem vals_left (q : Fin 2160) (w : Fin 16) (x : Fin 1920) :
    (W3 m ρ c main_v4_1 : FVec Ideal S2160x16x1920 .f32) (ix3 q w x)
      = share (weights (Ideal.div ((50 : ℝ) : EReal) (M : EReal)) (depthIn m c (ix4 (imageOf q) 0 (rowOf q) x))
          (posX (flowIn m c) (imageOf q) (rowOf q) x) (posY (flowIn m c) (imageOf q) (rowOf q) x) (placeOf w))
          (fun ch => frameIn m c (ix4 (imageOf q) ch (rowOf q) x)) (channelOf w) := by
  have e : (W3 m ρ c main_v4_1 : FVec Ideal S2160x16x1920 .f32) = _ :=
    (W3_arr m ρ c 5).trans (vals_array (V2 m ρ) c (scaleOf (W1 m ρ c main_v0)) (scale_operand m ρ c)
      (frameIn m c) (W2_args m ρ c main_arg0 (by decide)) (depthIn m c) (W2_args m ρ c main_arg2 (by decide))
      (flowIn m c) (W2_args m ρ c main_arg3 (by decide)))
  rw [e, ← scale_value m ρ c M hM]
  rfl

/-- The canvas the last launch reads holds, at a place of the image, the plain formula's total. -/
theorem canvas_total (hpos : 0 < M) (b : Fin 2) (ch : Fin 4) (y : Fin 1080) (x : Fin 1920) :
    canvasOf (W3 m ρ c main_v4_0) (W3 m ρ c main_v4_1) (ix4 b ch (canvasRow y) (canvasCol x))
      = total (M : EReal) (frameIn m c) (depthIn m c) (flowIn m c) b y x ch := by
  rw [canvas_at _ _ fun q k x => ?_]
  · unfold total
    refine Finset.sum_congr rfl fun n _ => Finset.sum_congr rfl fun k _ => ?_
    have e1 : imageOf ⟨n.val / 1920, by omega⟩ = pixImage n := Fin.ext (by show n.val / 1920 / 1080 = n.val / 2073600; omega)
    have e2 : rowOf ⟨n.val / 1920, by omega⟩ = pixRow n := rfl
    have e3 : placeOf ⟨k.val * 4 + ch.val, by omega⟩ = k := Fin.ext (by show (k.val * 4 + ch.val) / 4 = k.val; omega)
    have e4 : channelOf ⟨k.val * 4 + ch.val, by omega⟩ = ch := Fin.ext (by show (k.val * 4 + ch.val) % 4 = ch.val; omega)
    have e5 : (⟨n.val % 1920, by omega⟩ : Fin 1920) = pixCol n := rfl
    rw [words_left, vals_left m ρ c M hM, e1, e2, e3, e4, e5]
    exact part_eq M hpos (pixImage n) b y x _ _ _ _ ch k
  · rw [words_left]
    exact (words_small _ (imageOf q).isLt _ _ k).1

/-- The kernel's mask. -/
theorem mask_at (hpos : 0 < M) (b : Fin 2) (y : Fin 1080) (x : Fin 1920) :
    ((dat2 (F := Ideal) (V4 m ρ) c).arrAt 3 cfg2.N : FVec Ideal S2x1x1080x1920 .f32) (ix4 b 0 y x)
      = covered (total (M : EReal) (frameIn m c) (depthIn m c) (flowIn m c) b y x 3) := by
  have e := mask_array (V4 m ρ) c _ (canvas_operand m ρ c)
  rw [← canvas_total m ρ c M hM hpos]
  exact congrFun e (ix4 b 0 y x)

/-- The kernel's image. -/
theorem image_at (hpos : 0 < M) (b : Fin 2) (ch : Fin 3) (y : Fin 1080) (x : Fin 1920) :
    ((dat2 (F := Ideal) (V4 m ρ) c).arrAt 2 cfg2.N : FVec Ideal S2x3x1080x1920 .f32) (ix4 b ch y x)
      = filled (total (M : EReal) (frameIn m c) (depthIn m c) (flowIn m c) b y x 3)
          (total (M : EReal) (frameIn m c) (depthIn m c) (flowIn m c) b y x ⟨ch.val, by omega⟩) (secondIn m c (ix4 b ch y x)) := by
  have e := image_array (V4 m ρ) c _ (canvas_operand m ρ c) (secondIn m c) (other_operand m ρ c)
  rw [← canvas_total m ρ c M hM hpos, ← canvas_total m ρ c M hM hpos]
  exact congrFun e (ix4 b ch y x)

end Cert.KernelIdeal.Splat
-- ==== Proof.RefPixel.lean ====
/- What the reference computes for one pixel: its target words and its weights. -/
module

public import proofs.«01_k».proof.Proof.Pixel
public import proofs.«01_k».proof.Proof.Maximum
public import proofs.«01_k».proof.Proof.Gen.ReferenceIdeal.Run

@[expose] public section

set_option maxRecDepth 16384

noncomputable section

namespace Cert.ReferenceIdeal.Splat

open Idealize.ShloMosaic Idealize.ShloMosaic.TcCoe Idealize.ShloMosaic.Tactic
open Cert.ReferenceIdeal Cert.ReferenceIdeal.Gen Cert.ReferenceIdeal.Value Cert.Splat

variable (V0 : Valuation τ sig (Elt Ideal))

/-- The flow. -/
abbrev flow : FVec Ideal S2x2x1080x1920 .f32 := V0 (Proc.devRef .tc main_arg3)
/-- The depths. -/
abbrev depth : FVec Ideal S2x1x1080x1920 .f32 := V0 (Proc.devRef .tc main_arg2)
/-- The first frame. -/
abbrev frame : FVec Ideal S2x3x1080x1920 .f32 := V0 (Proc.devRef .tc main_arg0)

/-- The clamped positions. -/
def clamped : FVec Ideal S2x2x1080x1920 .f32 := res_main_v22 (F := Ideal) V0
/-- The lower cells' rows, as floats. -/
def floorY : FVec Ideal S2x1x1080x1920 .f32 := res_main_v42 (F := Ideal) V0
/-- The lower cells' columns, as floats. -/
def floorX : FVec Ideal S2x1x1080x1920 .f32 := res_main_v44 (F := Ideal) V0
/-- The logarithmic depths. -/
def logs : FVec Ideal S2x1x1080x1920 .f32 := res_main_v74 (F := Ideal) V0
/-- Their maximum. -/
def topLog : FVec Ideal S_ .f32 :=
  Host.reduce FloatOps.maximumf (logs V0) (constant (F := Ideal) S_ .f32 0xFF800000#32) reducesTo_S2x1x1080x1920_S_d0_1_2_3 h_S_
/-- The divisors. -/
def divisors : FVec Ideal S2x1x1080x1920 .f32 := res_main_v80 (F := Ideal) V0

/-- The divisors from the logarithmic depths `l` and their maximum `r`. -/
def divisorsOf (l : FVec Ideal S2x1x1080x1920 .f32) (r : FVec Ideal S_ .f32) : FVec Ideal S2x1x1080x1920 .f32 :=
  Host.exp (mulf (Host.divf l (broadcastInDim S2x1x1080x1920 ![] bcast_S_S2x1x1080x1920 r)) (broadcastInDim S2x1x1080x1920 ![] bcast_S_S2x1x1080x1920 (constant S_ .f32 0x42480000#32)))

theorem divisors_eq : divisors V0 = divisorsOf (logs V0) (topLog V0) := rfl

theorem divisorsOf_at (l : FVec Ideal S2x1x1080x1920 .f32) (r : FVec Ideal S_ .f32) (b : Fin 2) (y : Fin 1080) (x : Fin 1920) :
    divisorsOf l r (ix4 b 0 y x) = Ideal.exp (Ideal.div (l (ix4 b 0 y x)) (r ix0) * ((50 : ℝ) : EReal)) := by
  pointwise [divisorsOf]
  rw [bits_50]

theorem position_x (b : Fin 2) (y : Fin 1080) (x : Fin 1920) : res_main_v9 (F := Ideal) V0 (ix4 b 0 y x) = posX (flow V0) b y x := by
  pointwise [res_main_v9]
  rw [sitofp_nat _ (by omega)]
  rfl

theorem position_y (b : Fin 2) (y : Fin 1080) (x : Fin 1920) : res_main_v9 (F := Ideal) V0 (ix4 b 1 y x) = posY (flow V0) b y x := by
  pointwise [res_main_v9]
  rw [sitofp_nat _ (by omega)]
  rfl

theorem low_x (b : Fin 2) (y : Fin 1080) (x : Fin 1920) : res_main_v31 (F := Ideal) V0 (ix4 b 0 y x) = cellLo 1921 (posX (flow V0) b y x) := by
  pointwise [res_main_v31, res_main_v11]
  rw [position_x]
  rfl

theorem low_y (b : Fin 2) (y : Fin 1080) (x : Fin 1920) : res_main_v31 (F := Ideal) V0 (ix4 b 1 y x) = cellLo 1081 (posY (flow V0) b y x) := by
  pointwise [res_main_v31, res_main_v11]
  rw [position_y]
  rfl

theorem high_x (b : Fin 2) (y : Fin 1080) (x : Fin 1920) : res_main_v40 (F := Ideal) V0 (ix4 b 0 y x) = cellHi 1921 (posX (flow V0) b y x) := by
  pointwise [res_main_v40, res_main_v13]
  rw [position_x]
  rfl

theorem high_y (b : Fin 2) (y : Fin 1080) (x : Fin 1920) : res_main_v40 (F := Ideal) V0 (ix4 b 1 y x) = cellHi 1081 (posY (flow V0) b y x) := by
  pointwise [res_main_v40, res_main_v13]
  rw [position_y]
  rfl

/-- The horizontal distance from the lower cell. -/
theorem frac_x (b : Fin 2) (y : Fin 1080) (x : Fin 1920) :
    clamped V0 (ix4 b 0 y x) - floorX V0 (ix4 b 0 y x) = cellFrac 1921 (posX (flow V0) b y x) := by
  pointwise [clamped, floorX, floorY, res_main_v22, id, res_main_v44]
  rw [position_x, low_x, bits_1921]
  rfl

/-- The vertical one. -/
theorem frac_y (b : Fin 2) (y : Fin 1080) (x : Fin 1920) :
    clamped V0 (ix4 b 1 y x) - floorY V0 (ix4 b 0 y x) = cellFrac 1081 (posY (flow V0) b y x) := by
  pointwise [clamped, floorX, floorY, res_main_v22, id, res_main_v42]
  rw [position_y, low_y, bits_1081]
  rfl

theorem log_at (b : Fin 2) (y : Fin 1080) (x : Fin 1920) : logs V0 (ix4 b 0 y x) = logDepth (depth V0 (ix4 b 0 y x)) := by
  pointwise [logs, res_main_v74, id]
  rw [bits_1000]
  rfl

/-- The maximum of the logarithmic depths, by its upper bounds. -/
theorem topLog_eq (M : EReal) (hM : ∀ c, M ≤ c ↔ ∀ (b : Fin 2) (y : Fin 1080) (x : Fin 1920), logDepth (depth V0 (ix4 b 0 y x)) ≤ c) : topLog V0 ix0 = M := by
  refine eq_of_forall_ge_iff fun c => (reduce_max_le _ _ _ _ _ (by intro i; funext a; exact a.elim0) c).trans ?_
  rw [hM]
  constructor
  · exact fun h b y x => (log_at V0 b y x).symm.trans_le (h.2 _)
  · refine fun h => ⟨?_, fun i => ?_⟩
    · exact (bits_neg_inf.trans_le bot_le : _)
    · change S2x1x1080x1920.Idx at i
      idx_vars i
      obtain rfl : i1 = 0 := Subsingleton.elim _ _
      exact (log_at V0 i0 i2 i3).trans_le (h i0 i2 i3)

/-- The reference's divisor of a pixel. -/
theorem divisor (M : EReal) (hM : ∀ c, M ≤ c ↔ ∀ (b : Fin 2) (y : Fin 1080) (x : Fin 1920), logDepth (depth V0 (ix4 b 0 y x)) ≤ c)
    (b : Fin 2) (y : Fin 1080) (x : Fin 1920) : divisors V0 (ix4 b 0 y x) = refDepth M (depth V0 (ix4 b 0 y x)) := by
  rw [divisors_eq, divisorsOf_at, log_at, topLog_eq V0 M hM]
  rfl

end Cert.ReferenceIdeal.Splat
-- ==== Proof.RefWords.lean ====
/- The reference's target words, a line of them for each of the four places. -/
module

public import proofs.«01_k».proof.Proof.RefPixel

@[expose] public section

set_option maxRecDepth 16384

noncomputable section

namespace Cert.ReferenceIdeal.Splat

open Idealize.ShloMosaic Idealize.ShloMosaic.TcCoe Idealize.ShloMosaic.Tactic
open Cert.ReferenceIdeal Cert.ReferenceIdeal.Gen Cert.ReferenceIdeal.Value Cert.Splat

variable (V0 : Valuation τ sig (Elt Ideal))

/-- The words of the upper left targets, then upper right, lower left, lower right. -/
def line : Fin 4 → IVec S4147200 32
  | 0 => res_main_v107 (F := Ideal) V0
  | 1 => res_main_v121 (F := Ideal) V0
  | 2 => res_main_v114 (F := Ideal) V0
  | 3 => res_main_v128 (F := Ideal) V0

/-- The words of pixel `n`. -/
def pixWords (n : Fin 4147200) : Fin 4 → BitVec 32 :=
  refWords (pixImage n).val (posX (flow V0) (pixImage n) (pixRow n) (pixCol n)) (posY (flow V0) (pixImage n) (pixRow n) (pixCol n))

theorem line_0 (n : Fin 4147200) : line V0 0 (ix1 n) = pixWords V0 n 0 := by
  have hy := low_y V0 (pixImage n) (pixRow n) (pixCol n)
  have hx := low_x V0 (pixImage n) (pixRow n) (pixCol n)
  unfold pixWords refWords
  dsimp only
  rw [← hy, ← hx]
  pointwise [line, res_main_v107, res_main_v92, res_main_v94, res_main_v96]
  rfl

theorem line_1 (n : Fin 4147200) : line V0 1 (ix1 n) = pixWords V0 n 1 := by
  have hy := low_y V0 (pixImage n) (pixRow n) (pixCol n)
  have hx := high_x V0 (pixImage n) (pixRow n) (pixCol n)
  unfold pixWords refWords
  dsimp only
  rw [← hy, ← hx]
  pointwise [line, res_main_v121, res_main_v92, res_main_v94, res_main_v100]
  rfl

theorem line_2 (n : Fin 4147200) : line V0 2 (ix1 n) = pixWords V0 n 2 := by
  have hy := high_y V0 (pixImage n) (pixRow n) (pixCol n)
  have hx := low_x V0 (pixImage n) (pixRow n) (pixCol n)
  unfold pixWords refWords
  dsimp only
  rw [← hy, ← hx]
  pointwise [line, res_main_v114, res_main_v92, res_main_v98, res_main_v96]
  rfl

theorem line_3 (n : Fin 4147200) : line V0 3 (ix1 n) = pixWords V0 n 3 := by
  have hy := high_y V0 (pixImage n) (pixRow n) (pixCol n)
  have hx := high_x V0 (pixImage n) (pixRow n) (pixCol n)
  unfold pixWords refWords
  dsimp only
  rw [← hy, ← hx]
  pointwise [line, res_main_v128, res_main_v92, res_main_v98, res_main_v100]
  rfl

theorem line_at (n : Fin 4147200) (k : Fin 4) : line V0 k (ix1 n) = pixWords V0 n k := by
  fin_cases k
  exacts [line_0 V0 n, line_1 V0 n, line_2 V0 n, line_3 V0 n]

theorem line_small (n : Fin 4147200) (k : Fin 4) : (line V0 k (ix1 n)).toNat < 2 ^ 31 := by
  rw [line_at]
  exact (words_small _ (pixImage n).isLt _ _ k).2

end Cert.ReferenceIdeal.Splat
-- ==== Proof.RefWeights.lean ====
/- The reference's weights, an array of them for each of the four places. -/
module

public import proofs.«01_k».proof.Proof.RefPixel

@[expose] public section

set_option maxRecDepth 16384

noncomputable section

namespace Cert.ReferenceIdeal.Splat

open Idealize.ShloMosaic Idealize.ShloMosaic.TcCoe Idealize.ShloMosaic.Tactic
open Cert.ReferenceIdeal Cert.ReferenceIdeal.Gen Cert.ReferenceIdeal.Value Cert.Splat

/-- Products of distances over the divisors, the channels last. -/
def divided (p d : FVec Ideal S2x1x1080x1920 .f32) : FVec Ideal S2x1080x1920x1 .f32 :=
  transpose S2x1080x1920x1 [0, 2, 3, 1] (Host.divf p d) transposes_S2x1x1080x1920_S2x1080x1920x1_0_2_3_1

theorem divided_at (p d : FVec Ideal S2x1x1080x1920 .f32) (b : Fin 2) (y : Fin 1080) (x : Fin 1920) :
    divided p d (ix4 b y x 0) = Ideal.div (p (ix4 b 0 y x)) (d (ix4 b 0 y x)) := by
  pointwise [divided]

/-- The vertical distances. -/
def distY (c : FVec Ideal S2x2x1080x1920 .f32) (fy : FVec Ideal S2x1x1080x1920 .f32) : FVec Ideal S2x1x1080x1920 .f32 :=
  subf (extractStridedSlice S2x1x1080x1920 ![0, 1, 0, 0] c slices_S2x2x1080x1920_S2x1x1080x1920_0_1_0_0) fy
/-- The horizontal distances. -/
def distX (c : FVec Ideal S2x2x1080x1920 .f32) (fx : FVec Ideal S2x1x1080x1920 .f32) : FVec Ideal S2x1x1080x1920 .f32 :=
  subf (extractStridedSlice S2x1x1080x1920 ![0, 0, 0, 0] c slices_S2x2x1080x1920_S2x1x1080x1920_0_0_0_0) fx
/-- One less a distance. -/
def rest (d : FVec Ideal S2x1x1080x1920 .f32) : FVec Ideal S2x1x1080x1920 .f32 :=
  subf (broadcastInDim S2x1x1080x1920 ![] bcast_S_S2x1x1080x1920 (constant S_ .f32 0x3F800000#32)) d

theorem distY_at (c : FVec Ideal S2x2x1080x1920 .f32) (fy : FVec Ideal S2x1x1080x1920 .f32) (b : Fin 2) (y : Fin 1080) (x : Fin 1920) :
    distY c fy (ix4 b 0 y x) = c (ix4 b 1 y x) - fy (ix4 b 0 y x) := by
  pointwise [distY]
theorem distX_at (c : FVec Ideal S2x2x1080x1920 .f32) (fx : FVec Ideal S2x1x1080x1920 .f32) (b : Fin 2) (y : Fin 1080) (x : Fin 1920) :
    distX c fx (ix4 b 0 y x) = c (ix4 b 0 y x) - fx (ix4 b 0 y x) := by
  pointwise [distX]
theorem rest_at (d : FVec Ideal S2x1x1080x1920 .f32) (b : Fin 2) (y : Fin 1080) (x : Fin 1920) : rest d (ix4 b 0 y x) = 1 - d (ix4 b 0 y x) := by
  pointwise [rest]
theorem product_at (u v : FVec Ideal S2x1x1080x1920 .f32) (b : Fin 2) (y : Fin 1080) (x : Fin 1920) :
    mulf u v (ix4 b 0 y x) = u (ix4 b 0 y x) * v (ix4 b 0 y x) := by
  pointwise

variable (V0 : Valuation τ sig (Elt Ideal))

/-- The pixels' vertical distances. -/
abbrev dy : FVec Ideal S2x1x1080x1920 .f32 := distY (clamped V0) (floorY V0)
/-- Their horizontal ones. -/
abbrev dx : FVec Ideal S2x1x1080x1920 .f32 := distX (clamped V0) (floorX V0)

/-- The weights of the upper left targets, then upper right, lower left, lower right. -/
def weightArray : Fin 4 → FVec Ideal S2x1080x1920x1 .f32
  | 0 => divided (mulf (rest (dy V0)) (rest (dx V0))) (divisors V0)
  | 1 => divided (mulf (rest (dy V0)) (dx V0)) (divisors V0)
  | 2 => divided (mulf (dy V0) (rest (dx V0))) (divisors V0)
  | 3 => divided (mulf (dy V0) (dx V0)) (divisors V0)

/-- They are what the reference computes. -/
theorem weightArray_eq : weightArray V0 0 = res_main_v82 (F := Ideal) V0 ∧ weightArray V0 1 = res_main_v86 (F := Ideal) V0
    ∧ weightArray V0 2 = res_main_v84 (F := Ideal) V0 ∧ weightArray V0 3 = res_main_v88 (F := Ideal) V0 := ⟨rfl, rfl, rfl, rfl⟩

/-- The weights of a pixel. -/
def pixWeights (M : EReal) (b : Fin 2) (y : Fin 1080) (x : Fin 1920) : Fin 4 → EReal :=
  refWeights M (depth V0 (ix4 b 0 y x)) (posX (flow V0) b y x) (posY (flow V0) b y x)

theorem weight_at (M : EReal) (hM : ∀ c, M ≤ c ↔ ∀ (b : Fin 2) (y : Fin 1080) (x : Fin 1920), logDepth (depth V0 (ix4 b 0 y x)) ≤ c)
    (b : Fin 2) (y : Fin 1080) (x : Fin 1920) (k : Fin 4) : weightArray V0 k (ix4 b y x 0) = pixWeights V0 M b y x k := by
  unfold pixWeights
  fin_cases k <;> dsimp only [weightArray, refWeights] <;>
    rw [divided_at, product_at, divisor V0 M hM] <;> simp only [rest_at, distY_at, distX_at, frac_x, frac_y]

end Cert.ReferenceIdeal.Splat
-- ==== Proof.RefPut.lean ====
/- One addition of rows into a canvas of the reference. -/
module

public import proofs.«01_k».proof.Proof.Gen.ReferenceIdeal.Run
public import proofs.«01_k».proof.Proof.RowScatter
public import Idealize.ShloMosaic.Lib.Pointwise
public import Idealize.ShloMosaic.Lib.Routing.OpsPair

@[expose] public section

set_option maxRecDepth 16384

noncomputable section

namespace Cert.ReferenceIdeal.Splat

open Idealize.ShloMosaic.Routing (shape2)
open Idealize.ShloMosaic Idealize.ShloMosaic.TcCoe Idealize.ShloMosaic.Tactic
open Cert.ReferenceIdeal Cert.ReferenceIdeal.Gen Cert.ReferenceIdeal.Value Cert.Splat

/-- Rows added into a canvas at the words of `l`, a negative word counted from the canvas's end. -/
def put {C : ℕ} (d : ScatterDims (shape2 4159208 C) (shape2 4147200 1) (shape2 4147200 C)) (base : FVec Ideal (shape2 4159208 C) .f32)
    (l : IVec S4147200 32) (upd : FVec Ideal (shape2 4147200 C) .f32) : FVec Ideal (shape2 4159208 C) .f32 :=
  Host.scatterAdd (F := Ideal) d base
    (broadcastInDim S4147200x1 ![0] bcast_S4147200_S4147200x1_0
      (select (cmpi .slt l (broadcastInDim S4147200 ![] bcast_S_S4147200 (constantI S_ 32 0#32)))
        (addi l (broadcastInDim S4147200 ![] bcast_S_S4147200 (constantI S_ 32 4159208#32))) l)) upd

theorem put_at {C : ℕ} (d : ScatterDims (shape2 4159208 C) (shape2 4147200 1) (shape2 4147200 C)) (huw : d.updateWindowDims = [1])
    (hiw : d.insertedWindowDims = [0]) (hsd : d.scatterDimsToOperandDims = [0]) (hivd : d.indexVectorDim = 1) (base : FVec Ideal (shape2 4159208 C) .f32)
    (l : IVec S4147200 32) (hl : ∀ n, (l (ix1 n)).toNat < 2 ^ 31) (upd : FVec Ideal (shape2 4147200 C) .f32) (r : Fin 4159208) (c : Fin C) :
    put d base l upd (ix2 r c) = base (ix2 r c) + ∑ n : Fin 4147200, if (l (ix1 n)).toInt = r.val then upd (ix2 n c) else (0 : EReal) := by
  unfold put
  refine (row_scatter d huw hiw hsd hivd _ _ _ r c).trans ?_
  simp only [← ix2_eq_valueIdx]
  refine congrArg (base (ix2 r c) + ·) (Finset.sum_congr rfl fun n _ => if_congr (Eq.congr_left (congrArg BitVec.toInt ?_)) rfl rfl)
  pointwise
  exact Routing.wrap_of_lt _ _ (hl n)

/-- Four sums, the two middle ones exchanged, as one sum of four. -/
theorem four_sums {N : ℕ} (g : Fin N → Fin 4 → EReal) : 0 + (∑ n, g n 0) + (∑ n, g n 2) + (∑ n, g n 1) + (∑ n, g n 3) = ∑ n, ∑ k, g n k := by
  simp only [Fin.sum_univ_four, Finset.sum_add_distrib, zero_add]
  rw [add_right_comm (∑ n, g n 0)]

end Cert.ReferenceIdeal.Splat
-- ==== Proof.RefCanvas.lean ====
/- The reference's two canvases, of weights and of weighted colours, read at a place of the image. -/
module

public import proofs.«01_k».proof.Proof.RefWords
public import proofs.«01_k».proof.Proof.RefWeights
public import proofs.«01_k».proof.Proof.RefPut

@[expose] public section

set_option maxRecDepth 16384

noncomputable section

namespace Cert.ReferenceIdeal.Splat

open Idealize.ShloMosaic.Routing (shape2)
open Idealize.ShloMosaic Idealize.ShloMosaic.TcCoe Idealize.ShloMosaic.Tactic
open Cert.ReferenceIdeal Cert.ReferenceIdeal.Gen Cert.ReferenceIdeal.Value Cert.Splat

variable (V0 : Valuation τ sig (Elt Ideal))

/-- Four additions into a canvas, in the reference's order: upper left, lower left, upper right, lower right. -/
def putFour {C : ℕ} (d : ScatterDims (shape2 4159208 C) (shape2 4147200 1) (shape2 4147200 C)) (base : FVec Ideal (shape2 4159208 C) .f32)
    (l0 l1 l2 l3 : IVec S4147200 32) (u0 u1 u2 u3 : FVec Ideal (shape2 4147200 C) .f32) : FVec Ideal (shape2 4159208 C) .f32 :=
  put d (put d (put d (put d base l0 u0) l2 u2) l1 u1) l3 u3

/-- Into an empty canvas they leave, at row `r`, the sum over the pixels and their four words of what is added there. -/
theorem putFour_at {C : ℕ} (d : ScatterDims (shape2 4159208 C) (shape2 4147200 1) (shape2 4147200 C)) (huw : d.updateWindowDims = [1])
    (hiw : d.insertedWindowDims = [0]) (hsd : d.scatterDimsToOperandDims = [0]) (hivd : d.indexVectorDim = 1) (base : FVec Ideal (shape2 4159208 C) .f32)
    (hb : ∀ i, base i = 0) (u : Fin 4 → FVec Ideal (shape2 4147200 C) .f32) (r : Fin 4159208) (c : Fin C) :
    putFour d base (line V0 0) (line V0 1) (line V0 2) (line V0 3) (u 0) (u 1) (u 2) (u 3) (ix2 r c)
      = ∑ n : Fin 4147200, ∑ k : Fin 4, if (pixWords V0 n k).toInt = r.val then u k (ix2 n c) else (0 : EReal) := by
  unfold putFour
  rw [put_at d huw hiw hsd hivd _ _ (fun n => line_small V0 n 3), put_at d huw hiw hsd hivd _ _ (fun n => line_small V0 n 1),
    put_at d huw hiw hsd hivd _ _ (fun n => line_small V0 n 2), put_at d huw hiw hsd hivd _ _ (fun n => line_small V0 n 0), hb]
  simp only [line_at]
  exact four_sums fun n k => if (pixWords V0 n k).toInt = r.val then u k (ix2 n c) else (0 : EReal)

/-- The row of a canvas that holds row `y`, column `x` of image `b`. -/
def place (b : Fin 2) (y : Fin 1080) (x : Fin 1920) : Fin 4159208 := ⟨(b.val * 1082 + (1 + y.val)) * 1922 + (1 + x.val), by omega⟩

/-- A canvas of weights cut to the images. -/
def cutOne (w : FVec Ideal S4159208x1 .f32) : FVec Ideal S2x1080x1920x1 .f32 :=
  extractStridedSlice S2x1080x1920x1 ![0, 1, 1, 0] (shapeCast S2x1082x1922x1 w shapeCasts_S4159208x1_S2x1082x1922x1) slices_S2x1082x1922x1_S2x1080x1920x1_0_1_1_0

/-- A canvas of colours cut to the images. -/
def cutThree (w : FVec Ideal S4159208x3 .f32) : FVec Ideal S2x1080x1920x3 .f32 :=
  extractStridedSlice S2x1080x1920x3 ![0, 1, 1, 0] (shapeCast S2x1082x1922x3 w shapeCasts_S4159208x3_S2x1082x1922x3) slices_S2x1082x1922x3_S2x1080x1920x3_0_1_1_0

theorem cutOne_at (w : FVec Ideal S4159208x1 .f32) (b : Fin 2) (y : Fin 1080) (x : Fin 1920) : cutOne w (ix4 b y x 0) = w (ix2 (place b y x) 0) := by
  pointwise [cutOne]
  congr 2
  exact Fin.ext (by dsimp only [place]; omega)

theorem cutThree_at (w : FVec Ideal S4159208x3 .f32) (b : Fin 2) (y : Fin 1080) (x : Fin 1920) (ch : Fin 3) : cutThree w (ix4 b y x ch) = w (ix2 (place b y x) ch) := by
  pointwise [cutThree]
  congr 2
  exact Fin.ext (by dsimp only [place]; omega)

/-- Weights in a line. -/
def lineOne (w : FVec Ideal S2x1080x1920x1 .f32) : FVec Ideal S4147200x1 .f32 := shapeCast S4147200x1 w shapeCasts_S2x1080x1920x1_S4147200x1

/-- Weighted colours in a line. -/
def lineThree (f : FVec Ideal S2x1080x1920x3 .f32) (w : FVec Ideal S2x1080x1920x1 .f32) : FVec Ideal S4147200x3 .f32 :=
  shapeCast S4147200x3 (mulf f (broadcastInDim S2x1080x1920x3 ![0, 1, 2, 3] bcast_S2x1080x1920x1_S2x1080x1920x3_0_1_2_3 w)) shapeCasts_S2x1080x1920x3_S4147200x3

theorem lineOne_at (w : FVec Ideal S2x1080x1920x1 .f32) (n : Fin 4147200) : lineOne w (ix2 n 0) = w (ix4 (pixImage n) (pixRow n) (pixCol n) 0) := by
  pointwise [lineOne]
  rfl

theorem lineThree_at (f : FVec Ideal S2x1080x1920x3 .f32) (w : FVec Ideal S2x1080x1920x1 .f32) (n : Fin 4147200) (ch : Fin 3) :
    lineThree f w (ix2 n ch) = f (ix4 (pixImage n) (pixRow n) (pixCol n) ch) * w (ix4 (pixImage n) (pixRow n) (pixCol n) 0) := by
  pointwise [lineThree]
  rfl

/-- The first frame, channels last. -/
def colours : FVec Ideal S2x1080x1920x3 .f32 := res_main_v89 (F := Ideal) V0

theorem colours_at (b : Fin 2) (y : Fin 1080) (x : Fin 1920) (ch : Fin 3) : colours V0 (ix4 b y x ch) = frame V0 (ix4 b ch y x) := by
  pointwise [colours, res_main_v89]

/-- The accumulated weights. -/
def weightSums : FVec Ideal S2x1080x1920x1 .f32 :=
  cutOne (putFour scatter_S4159208x1_S4147200x1_S4147200x1_1_0_0_1 (broadcastInDim S4159208x1 ![] bcast_S_S4159208x1 (constant S_ .f32 0x00000000#32))
    (line V0 0) (line V0 1) (line V0 2) (line V0 3) (lineOne (weightArray V0 0)) (lineOne (weightArray V0 1)) (lineOne (weightArray V0 2)) (lineOne (weightArray V0 3)))

/-- The accumulated colours. -/
def colourSums : FVec Ideal S2x1080x1920x3 .f32 :=
  cutThree (putFour scatter_S4159208x3_S4147200x1_S4147200x3_1_0_0_1 (broadcastInDim S4159208x3 ![] bcast_S_S4159208x3 (constant S_ .f32 0x00000000#32))
    (line V0 0) (line V0 1) (line V0 2) (line V0 3) (lineThree (colours V0) (weightArray V0 0)) (lineThree (colours V0) (weightArray V0 1))
    (lineThree (colours V0) (weightArray V0 2)) (lineThree (colours V0) (weightArray V0 3)))

/-- The accumulated weights are what the reference computes. -/
theorem weightSums_eq : weightSums V0 = res_main_v206 (F := Ideal) V0 := rfl

variable (M : EReal) (hM : ∀ c, M ≤ c ↔ ∀ (b : Fin 2) (y : Fin 1080) (x : Fin 1920), logDepth (depth V0 (ix4 b 0 y x)) ≤ c)

/-- Channel `ch` accumulated at row `y`, column `x` of image `b` by the reference's formula, the weight being the fourth. -/
def refSum (b : Fin 2) (y : Fin 1080) (x : Fin 1920) (ch : Fin 4) : EReal :=
  ∑ n : Fin 4147200, ∑ k : Fin 4, if (pixWords V0 n k).toInt = (((b.val * 1082 + (1 + y.val)) * 1922 + (1 + x.val) : ℕ) : ℤ)
    then share (pixWeights V0 M (pixImage n) (pixRow n) (pixCol n) k) (fun c => frame V0 (ix4 (pixImage n) c (pixRow n) (pixCol n))) ch else 0

include hM

theorem weightSums_at (b : Fin 2) (y : Fin 1080) (x : Fin 1920) : weightSums V0 (ix4 b y x 0) = refSum V0 M b y x 3 := by
  unfold weightSums
  rw [cutOne_at]
  refine (putFour_at V0 _ rfl rfl rfl rfl _ (fun i => by pointwise) (fun k => lineOne (weightArray V0 k)) (place b y x) 0).trans ?_
  refine Finset.sum_congr rfl fun n _ => Finset.sum_congr rfl fun k _ => if_congr Iff.rfl ?_ rfl
  rw [lineOne_at, weight_at V0 M hM]
  rfl

theorem colourSums_at (b : Fin 2) (y : Fin 1080) (x : Fin 1920) (ch : Fin 3) : colourSums V0 (ix4 b y x ch) = refSum V0 M b y x ⟨ch.val, by omega⟩ := by
  unfold colourSums
  rw [cutThree_at]
  refine (putFour_at V0 _ rfl rfl rfl rfl _ (fun i => by pointwise) (fun k => lineThree (colours V0) (weightArray V0 k)) (place b y x) ch).trans ?_
  refine Finset.sum_congr rfl fun n _ => Finset.sum_congr rfl fun k _ => if_congr Iff.rfl ?_ rfl
  rw [lineThree_at, weight_at V0 M hM, colours_at, mul_comm]
  unfold share
  rw [dif_pos ch.isLt]

end Cert.ReferenceIdeal.Splat
-- ==== Proof.RefImage.lean ====
/- What the reference returns, read at an entry: the composed image and the mask. -/
module

public import proofs.«01_k».proof.Proof.RefCanvas

@[expose] public section

set_option maxRecDepth 16384

noncomputable section

namespace Cert.ReferenceIdeal.Splat

open Idealize.ShloMosaic Idealize.ShloMosaic.TcCoe Idealize.ShloMosaic.Tactic
open Cert.ReferenceIdeal Cert.ReferenceIdeal.Gen Cert.ReferenceIdeal.Value Cert.Splat

/-- Where a weight has been accumulated. -/
def coveredWhere (s : FVec Ideal S2x1080x1920x1 .f32) : IVec S2x1080x1920x1 1 :=
  cmpf .ogt s (broadcastInDim S2x1080x1920x1 ![] bcast_S_S2x1080x1920x1 (constant S_ .f32 0x00000000#32))

/-- The mask of the accumulated weights. -/
def maskOf (s : FVec Ideal S2x1080x1920x1 .f32) : FVec Ideal S2x1x1080x1920 .f32 :=
  transpose S2x1x1080x1920 [0, 3, 1, 2] (uitofp .f32 (coveredWhere s)) transposes_S2x1080x1920x1_S2x1x1080x1920_0_3_1_2

/-- The accumulated colours over the accumulated weights, `-1` where there is no weight, clamped to `-1 … 1`. -/
def warpedOf (s : FVec Ideal S2x1080x1920x1 .f32) (rgb : FVec Ideal S2x1080x1920x3 .f32) : FVec Ideal S2x1080x1920x3 .f32 :=
  minimumf (broadcastInDim S2x1080x1920x3 ![] bcast_S_S2x1080x1920x3 (id (constant S_ .f32 0x3F800000#32)))
    (maximumf (broadcastInDim S2x1080x1920x3 ![] bcast_S_S2x1080x1920x3 (id (constant S_ .f32 0xBF800000#32)))
      (select (broadcastInDim S2x1080x1920x3 ![0, 1, 2, 3] bcast_S2x1080x1920x1_S2x1080x1920x3_0_1_2_3 (coveredWhere s))
        (Host.divf rgb (broadcastInDim S2x1080x1920x3 ![0, 1, 2, 3] bcast_S2x1080x1920x1_S2x1080x1920x3_0_1_2_3
          (select (coveredWhere s) s (broadcastInDim S2x1080x1920x1 ![] bcast_S_S2x1080x1920x1 (constant S_ .f32 0x3F800000#32)))))
        (broadcastInDim S2x1080x1920x3 ![] bcast_S_S2x1080x1920x3 (id (constant S_ .f32 0xBF800000#32)))))

/-- The warped image under the mask, the second frame elsewhere. -/
def composedOf (k : FVec Ideal S2x1x1080x1920 .f32) (w : FVec Ideal S2x1080x1920x3 .f32) (other : FVec Ideal S2x3x1080x1920 .f32) : FVec Ideal S2x3x1080x1920 .f32 :=
  addf (mulf (broadcastInDim S2x3x1080x1920 ![0, 1, 2, 3] bcast_S2x1x1080x1920_S2x3x1080x1920_0_1_2_3 k)
      (transpose S2x3x1080x1920 [0, 3, 1, 2] w transposes_S2x1080x1920x3_S2x3x1080x1920_0_3_1_2))
    (mulf (broadcastInDim S2x3x1080x1920 ![0, 1, 2, 3] bcast_S2x1x1080x1920_S2x3x1080x1920_0_1_2_3
      (subf (broadcastInDim S2x1x1080x1920 ![] bcast_S_S2x1x1080x1920 (constant S_ .f32 0x3F800000#32)) k)) other)

theorem maskOf_at (s : FVec Ideal S2x1080x1920x1 .f32) (b : Fin 2) (y : Fin 1080) (x : Fin 1920) : maskOf s (ix4 b 0 y x) = covered (s (ix4 b y x 0)) := by
  pointwise [maskOf, coveredWhere]
  rw [mask_unsigned]

theorem warpedOf_at (s : FVec Ideal S2x1080x1920x1 .f32) (rgb : FVec Ideal S2x1080x1920x3 .f32) (b : Fin 2) (y : Fin 1080) (x : Fin 1920) (ch : Fin 3) :
    warpedOf s rgb (ix4 b y x ch)
      = min 1 (max ((-1 : ℝ) : EReal) (if 0 < s (ix4 b y x 0) then Ideal.div (rgb (ix4 b y x ch)) (s (ix4 b y x 0)) else ((-1 : ℝ) : EReal))) := by
  pointwise [warpedOf, coveredWhere, id]
  rw [bits_neg_one]
  by_cases h : 0 < s (ix4 b y x 0)
  · simp only [if_pos h]
  · simp only [if_neg h]

theorem composedOf_at (k : FVec Ideal S2x1x1080x1920 .f32) (w : FVec Ideal S2x1080x1920x3 .f32) (other : FVec Ideal S2x3x1080x1920 .f32)
    (b : Fin 2) (ch : Fin 3) (y : Fin 1080) (x : Fin 1920) :
    composedOf k w other (ix4 b ch y x) = k (ix4 b 0 y x) * w (ix4 b y x ch) + (1 - k (ix4 b 0 y x)) * other (ix4 b ch y x) := by
  pointwise [composedOf]

variable (V0 : Valuation τ sig (Elt Ideal))

/-- The second frame as the reference reads it. -/
def second : FVec Ideal S2x3x1080x1920 .f32 :=
  shapeCast S2x3x1080x1920 (V0 (Proc.devRef .tc main_arg1) : FVec Ideal S1x2x3x1080x1920 .f32) shapeCasts_S1x2x3x1080x1920_S2x3x1080x1920

/-- The reference's mask. -/
def refMask : FVec Ideal S2x1x1080x1920 .f32 := maskOf (weightSums V0)

/-- The reference's image. -/
def refImage : FVec Ideal S2x3x1080x1920 .f32 := composedOf (maskOf (weightSums V0)) (warpedOf (weightSums V0) (colourSums V0)) (second V0)

/-- The mask is what the reference returns second. -/
theorem refMask_eq : res_main_v217 (F := Ideal) V0 = refMask V0 := rfl

variable (M : EReal) (hM : ∀ c, M ≤ c ↔ ∀ (b : Fin 2) (y : Fin 1080) (x : Fin 1920), logDepth (depth V0 (ix4 b 0 y x)) ≤ c)
include hM

theorem refMask_at (b : Fin 2) (y : Fin 1080) (x : Fin 1920) : refMask V0 (ix4 b 0 y x) = covered (refSum V0 M b y x 3) := by
  unfold refMask
  rw [maskOf_at, weightSums_at V0 M hM]

theorem refImage_at (b : Fin 2) (ch : Fin 3) (y : Fin 1080) (x : Fin 1920) :
    refImage V0 (ix4 b ch y x) = filled (refSum V0 M b y x 3) (refSum V0 M b y x ⟨ch.val, by omega⟩) (second V0 (ix4 b ch y x)) := by
  unfold refImage filled
  rw [composedOf_at, maskOf_at, warpedOf_at, weightSums_at V0 M hM, colourSums_at V0 M hM]

end Cert.ReferenceIdeal.Splat
-- ==== Proof.Equation.lean ====
/- The kernel's two results are the reference's, from memories that agree on the arguments. -/
module

public import proofs.«01_k».proof.Proof.KernelTotal
public import proofs.«01_k».proof.Proof.RefImage

@[expose] public section

set_option maxRecDepth 16384

noncomputable section

namespace Cert.Splat

open Idealize.ShloMosaic Idealize.ShloMosaic.TcCoe Idealize.ShloMosaic.Tactic

/-- What the reference accumulates is the plain formula's total. -/
theorem refSum_total (L : Valuation Cert.ReferenceIdeal.τ Cert.ReferenceIdeal.sig (Elt Ideal)) (M : EReal) (b : Fin 2) (y : Fin 1080) (x : Fin 1920) (ch : Fin 4) :
    Cert.ReferenceIdeal.Splat.refSum L M b y x ch
      = total M (Cert.ReferenceIdeal.Splat.frame L) (Cert.ReferenceIdeal.Splat.depth L) (Cert.ReferenceIdeal.Splat.flow L) b y x ch := rfl

variable (m : (ℓ : Loc Cert.KernelIdeal.nD Cert.KernelIdeal.τ Cert.KernelIdeal.sig) → Buf (Elt Ideal) ℓ) (ρ : Dev Cert.KernelIdeal.nD → PrngReg)
  (c : Dev Cert.KernelIdeal.nD) (L : Valuation Cert.ReferenceIdeal.τ Cert.ReferenceIdeal.sig (Elt Ideal))

/-- If the arguments agree and some depth is positive, the kernel's mask and image are the reference's. -/
theorem results_eq (h0 : Cert.ReferenceIdeal.Splat.frame L = Cert.KernelIdeal.Splat.frameIn m c)
    (h1 : Cert.ReferenceIdeal.Splat.second L = Cert.KernelIdeal.Splat.secondIn m c)
    (h2 : Cert.ReferenceIdeal.Splat.depth L = Cert.KernelIdeal.Splat.depthIn m c)
    (h3 : Cert.ReferenceIdeal.Splat.flow L = Cert.KernelIdeal.Splat.flowIn m c)
    (hd : ∃ (b : Fin 2) (y : Fin 1080) (x : Fin 1920), 0 < Cert.KernelIdeal.Splat.depthIn m c (ix4 b 0 y x)) :
    ((Cert.KernelIdeal.Gen.dat2 (F := Ideal) (Cert.KernelIdeal.Gen.V4 m ρ) c).arrAt 2 Cert.KernelIdeal.cfg2.N : FVec Ideal Cert.KernelIdeal.S2x3x1080x1920 .f32)
        = Cert.ReferenceIdeal.Splat.refImage L
      ∧ ((Cert.KernelIdeal.Gen.dat2 (F := Ideal) (Cert.KernelIdeal.Gen.V4 m ρ) c).arrAt 3 Cert.KernelIdeal.cfg2.N : FVec Ideal Cert.KernelIdeal.S2x1x1080x1920 .f32)
        = Cert.ReferenceIdeal.Splat.refMask L := by
  obtain ⟨M, hpos, hM⟩ := top_exists _ hd
  have hM' : ∀ c : EReal, (M : EReal) ≤ c ↔ ∀ (b : Fin 2) (y : Fin 1080) (x : Fin 1920), logDepth (Cert.ReferenceIdeal.Splat.depth L (ix4 b 0 y x)) ≤ c := by
    rw [h2]
    exact hM
  constructor
  · funext i
    change (⟨4, ![2, 3, 1080, 1920]⟩ : Shape).Idx at i
    idx_vars i
    refine (Cert.KernelIdeal.Splat.image_at m ρ c M hM hpos i0 i1 i2 i3).trans
      (Eq.trans ?_ (Cert.ReferenceIdeal.Splat.refImage_at L (M : EReal) hM' i0 i1 i2 i3).symm)
    rw [refSum_total, refSum_total, h0, h1, h2, h3]
  · funext i
    change (⟨4, ![2, 1, 1080, 1920]⟩ : Shape).Idx at i
    idx_vars i
    obtain rfl : i1 = 0 := Subsingleton.elim _ _
    refine (Cert.KernelIdeal.Splat.mask_at m ρ c M hM hpos i0 i2 i3).trans
      (Eq.trans ?_ (Cert.ReferenceIdeal.Splat.refMask_at L (M : EReal) hM' i0 i2 i3).symm)
    rw [refSum_total, h0, h2, h3]

end Cert.Splat
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Depth
public import proofs.«01_k».proof.Proof.Equation
public import Idealize.ShloMosaic.Adequacy
public import Idealize.ShloMosaic.Init

@[expose] public section

noncomputable section

namespace Cert.Proof

open Idealize.ShloMosaic Idealize.SL.Sem

/-- The reference runs, leaves its arguments as they were, and has no semaphore to leave unsettled. -/
theorem frame_reference : quiescent_ReferenceIdeal (hReferenceIdeal := Cert.ReferenceIdeal.Gen.facts) := fun m g _ =>
  (θ_run Cert.ReferenceIdeal.defs _ _).mono
    (fun r h => ⟨fun c => ⟨(h c).2.2.1, (h c).2.2.2.1, (h c).2.2.2.2.1, (h c).2.2.2.2.2⟩,
      Idealize.ShloMosaic.sem_eq_zero_of_no_sems (by decide) r.2⟩)
    (Cert.ReferenceIdeal.Value.run (F := Ideal) m g)

/-- The reference's frame under the precondition, which it does not need. -/
theorem frame_reference_pre : quiescent_ReferenceIdeal_pre_some_depth_positive (hReferenceIdeal := Cert.ReferenceIdeal.Gen.facts)
    (hPre_some_depth_positive := Cert.Splat.pre_facts) := fun m g _ => frame_reference m g trivial

/-- The reference's run, its first result named. -/
theorem reference_run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v225) = Cert.ReferenceIdeal.Splat.refImage (StableHlo.launchContents m c)
        ∧ r.2.mem ((c.tc : Thread Cert.ReferenceIdeal.nD Cert.ReferenceIdeal.τ).loc Cert.ReferenceIdeal.main_v217) = Cert.ReferenceIdeal.Splat.refMask (StableHlo.launchContents m c)
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  Cert.ReferenceIdeal.Value.run (F := Ideal) m g

/-- Kernel and reference compute the same two arrays, entry by entry, when some depth is positive. -/
theorem value : algebraic_KernelIdeal_ReferenceIdeal_pre_some_depth_positive (hKernelIdeal := Cert.KernelIdeal.Gen.facts)
    (hReferenceIdeal := Cert.ReferenceIdeal.Gen.facts) (hPre_some_depth_positive := Cert.Splat.pre_facts) := by
  intro m g m' g' hpre hargs
  have key := fun c : Dev Cert.KernelIdeal.nD => Cert.Splat.results_eq m g c (StableHlo.launchContents m' c) (hargs c).1
    (congrArg (fun a : FVec Ideal Cert.KernelIdeal.S1x2x3x1080x1920 .f32 =>
      shapeCast Cert.KernelIdeal.S2x3x1080x1920 a Cert.KernelIdeal.Gen.shapeCasts_S1x2x3x1080x1920_S2x3x1080x1920) (hargs c).2.1)
    (hargs c).2.2.1 (hargs c).2.2.2
    (@Cert.Splat.depth_positive Cert.Splat.pre_facts _ _ _ _ (hpre c))
  refine ⟨_, _, Cert.KernelIdeal.Splat.value_run (F := Ideal) m g, ?_⟩
  exact (θ_run Cert.ReferenceIdeal.defs _ _).mono
    (fun r h c => ⟨(h c).1.trans (key c).1.symm, (h c).2.1.trans (key c).2.symm, (h c).2.2⟩) (reference_run m' g')

/-- Everything the certificate claims. -/
theorem claim : Cert.Claim := ⟨Cert.Kernel.Gen.facts, Cert.KernelIdeal.Gen.facts, Cert.ReferenceIdeal.Gen.facts, Cert.Splat.pre_facts,
  fun m g _ => Cert.Kernel.Gen.frame m g, fun m g _ => Cert.KernelIdeal.Gen.frame m g, fun m g _ => Cert.KernelIdeal.Gen.frame m g,
  frame_reference, frame_reference_pre, trivial, value⟩

end Cert.Proof

end
